-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x256 : Shape := ⟨3, ![2, 4096, 256]⟩
abbrev S8x512x1024 : Shape := ⟨3, ![8, 512, 1024]⟩
abbrev S2 : Shape := ⟨1, ![2]⟩
abbrev S8 : Shape := ⟨1, ![8]⟩
abbrev S_ : Shape := ⟨0, ![]⟩
abbrev S1 : Shape := ⟨1, ![1]⟩
abbrev S1x4096x256 : Shape := ⟨3, ![1, 4096, 256]⟩
abbrev S4096x256 : Shape := ⟨2, ![4096, 256]⟩
abbrev S512x256 : Shape := ⟨2, ![512, 256]⟩
abbrev S1x512x256 : Shape := ⟨3, ![1, 512, 256]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S512x4096, .bf16⟩
  | .local _ .vmem, ⟨3, _⟩ => ⟨S2x4096x256, .f32⟩
  | .local _ .vmem, ⟨4, _⟩ => ⟨S8x512x1024, .bf16⟩
  | .local _ .vmem, ⟨5, _⟩ => ⟨S8x512x1024, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_off1 (d0 : Dev nD) (c0_i32_29 : BitVec 32) (c0_i32_36 : BitVec 32) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v26 : BitVec 32 := Scalar.addi v2 c0_i32_29
  let c8_i32_30 : BitVec 32 := 8#32
  let c0_i32_31 : BitVec 32 := 0#32
  let v27 : BitVec 1 := Scalar.cmpi .eq c8_i32_30 c0_i32_31
  let c1_i32_32 : BitVec 32 := 1#32
  let v28 : BitVec 32 := Scalar.select v27 c1_i32_32 c8_i32_30
  let v29 : BitVec 32 := Scalar.remsi v26 v28
  let c0_i32_34 : BitVec 32 := 0#32
  let v31 : BitVec 1 := Scalar.cmpi .slt v29 c0_i32_34
  let c0_i32_35 : BitVec 32 := 0#32
  let v32 : BitVec 1 := Scalar.cmpi .slt v28 c0_i32_35
  let v33 : BitVec 1 := Scalar.xori v31 v32
  let c0_i32_33 : BitVec 32 := 0#32
  let v30 : BitVec 1 := Scalar.cmpi .ne v29 c0_i32_33
  let v34 : BitVec 1 := Scalar.andi v33 v30
  let v35 : BitVec 32 := Scalar.addi v29 v28
  let v36 : BitVec 32 := Scalar.select v34 v35 v29
  let c1024_i32 : BitVec 32 := 1024#32
  let v37 : BitVec 32 := Scalar.muli v36 c1024_i32
  let v38 : BitVec 32 := Scalar.addi v37 c0_i32_36
  ![0, v38.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v98 : BitVec 32 := Scalar.muli v2 c512_i32
  let v99 : Index := Scalar.indexCast v98
  let c0_78 : Index := 0#32
  ![v99.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_116 : BitVec 32 := 512#32
  let v155 : BitVec 32 := Scalar.muli v2 c512_i32_116
  let v156 : Index := Scalar.indexCast v155
  let c256 : Index := 256#32
  ![v156.toNat, 256]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_154 : BitVec 32 := 512#32
  let v212 : BitVec 32 := Scalar.muli v2 c512_i32_154
  let v213 : Index := Scalar.indexCast v212
  let c512 : Index := 512#32
  ![v213.toNat, 512]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_193 : BitVec 32 := 512#32
  let v269 : BitVec 32 := Scalar.muli v2 c512_i32_193
  let v270 : Index := Scalar.indexCast v269
  let c768 : Index := 768#32
  ![v270.toNat, 768]
def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_369 : BitVec 32 := 0#32
  let c0_i32_370 : BitVec 32 := 0#32
  ![v2.toNat, 0, 0]
def k0_dev9 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_358 : BitVec 32 := 1#32
  let v504 : BitVec 32 := Scalar.addi v2 c1_i32_358
  let c8_i32_359 : BitVec 32 := 8#32
  let c0_i32_360 : BitVec 32 := 0#32
  let v505 : BitVec 1 := Scalar.cmpi .eq c8_i32_359 c0_i32_360
  let c1_i32_361 : BitVec 32 := 1#32
  let v506 : BitVec 32 := Scalar.select v505 c1_i32_361 c8_i32_359
  let v507 : BitVec 32 := Scalar.remsi v504 v506
  let c0_i32_363 : BitVec 32 := 0#32
  let v509 : BitVec 1 := Scalar.cmpi .slt v507 c0_i32_363
  let c0_i32_364 : BitVec 32 := 0#32
  let v510 : BitVec 1 := Scalar.cmpi .slt v506 c0_i32_364
  let v511 : BitVec 1 := Scalar.xori v509 v510
  let c0_i32_362 : BitVec 32 := 0#32
  let v508 : BitVec 1 := Scalar.cmpi .ne v507 c0_i32_362
  let v512 : BitVec 1 := Scalar.andi v511 v508
  let v513 : BitVec 32 := Scalar.addi v507 v506
  let v514 : BitVec 32 := Scalar.select v512 v513 v507
  let c1_i32_367 : BitVec 32 := 1#32
  let v515 : BitVec 32 := Scalar.muli v514 c1_i32_367
  let v516 : BitVec 32 := Scalar.addi c0_i32_368 v515
  v516.toNat
def k0_dev10 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_536 : BitVec 32 := 2#32
  let v757 : BitVec 32 := Scalar.addi v2 c2_i32_536
  let c8_i32_537 : BitVec 32 := 8#32
  let c0_i32_538 : BitVec 32 := 0#32
  let v758 : BitVec 1 := Scalar.cmpi .eq c8_i32_537 c0_i32_538
  let c1_i32_539 : BitVec 32 := 1#32
  let v759 : BitVec 32 := Scalar.select v758 c1_i32_539 c8_i32_537
  let v760 : BitVec 32 := Scalar.remsi v757 v759
  let c0_i32_541 : BitVec 32 := 0#32
  let v762 : BitVec 1 := Scalar.cmpi .slt v760 c0_i32_541
  let c0_i32_542 : BitVec 32 := 0#32
  let v763 : BitVec 1 := Scalar.cmpi .slt v759 c0_i32_542
  let v764 : BitVec 1 := Scalar.xori v762 v763
  let c0_i32_540 : BitVec 32 := 0#32
  let v761 : BitVec 1 := Scalar.cmpi .ne v760 c0_i32_540
  let v765 : BitVec 1 := Scalar.andi v764 v761
  let v766 : BitVec 32 := Scalar.addi v760 v759
  let v767 : BitVec 32 := Scalar.select v765 v766 v760
  let c1_i32_545 : BitVec 32 := 1#32
  let v768 : BitVec 32 := Scalar.muli v767 c1_i32_545
  let v769 : BitVec 32 := Scalar.addi c0_i32_546 v768
  v769.toNat
def k0_dev11 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_714 : BitVec 32 := 3#32
  let v1010 : BitVec 32 := Scalar.addi v2 c3_i32_714
  let c8_i32_715 : BitVec 32 := 8#32
  let c0_i32_716 : BitVec 32 := 0#32
  let v1011 : BitVec 1 := Scalar.cmpi .eq c8_i32_715 c0_i32_716
  let c1_i32_717 : BitVec 32 := 1#32
  let v1012 : BitVec 32 := Scalar.select v1011 c1_i32_717 c8_i32_715
  let v1013 : BitVec 32 := Scalar.remsi v1010 v1012
  let c0_i32_719 : BitVec 32 := 0#32
  let v1015 : BitVec 1 := Scalar.cmpi .slt v1013 c0_i32_719
  let c0_i32_720 : BitVec 32 := 0#32
  let v1016 : BitVec 1 := Scalar.cmpi .slt v1012 c0_i32_720
  let v1017 : BitVec 1 := Scalar.xori v1015 v1016
  let c0_i32_718 : BitVec 32 := 0#32
  let v1014 : BitVec 1 := Scalar.cmpi .ne v1013 c0_i32_718
  let v1018 : BitVec 1 := Scalar.andi v1017 v1014
  let v1019 : BitVec 32 := Scalar.addi v1013 v1012
  let v1020 : BitVec 32 := Scalar.select v1018 v1019 v1013
  let c1_i32_723 : BitVec 32 := 1#32
  let v1021 : BitVec 32 := Scalar.muli v1020 c1_i32_723
  let v1022 : BitVec 32 := Scalar.addi c0_i32_724 v1021
  v1022.toNat
def k0_dev12 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_892 : BitVec 32 := 4#32
  let v1263 : BitVec 32 := Scalar.addi v2 c4_i32_892
  let c8_i32_893 : BitVec 32 := 8#32
  let c0_i32_894 : BitVec 32 := 0#32
  let v1264 : BitVec 1 := Scalar.cmpi .eq c8_i32_893 c0_i32_894
  let c1_i32_895 : BitVec 32 := 1#32
  let v1265 : BitVec 32 := Scalar.select v1264 c1_i32_895 c8_i32_893
  let v1266 : BitVec 32 := Scalar.remsi v1263 v1265
  let c0_i32_897 : BitVec 32 := 0#32
  let v1268 : BitVec 1 := Scalar.cmpi .slt v1266 c0_i32_897
  let c0_i32_898 : BitVec 32 := 0#32
  let v1269 : BitVec 1 := Scalar.cmpi .slt v1265 c0_i32_898
  let v1270 : BitVec 1 := Scalar.xori v1268 v1269
  let c0_i32_896 : BitVec 32 := 0#32
  let v1267 : BitVec 1 := Scalar.cmpi .ne v1266 c0_i32_896
  let v1271 : BitVec 1 := Scalar.andi v1270 v1267
  let v1272 : BitVec 32 := Scalar.addi v1266 v1265
  let v1273 : BitVec 32 := Scalar.select v1271 v1272 v1266
  let c1_i32_901 : BitVec 32 := 1#32
  let v1274 : BitVec 32 := Scalar.muli v1273 c1_i32_901
  let v1275 : BitVec 32 := Scalar.addi c0_i32_902 v1274
  v1275.toNat
def k0_dev13 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1070 : BitVec 32 := 5#32
  let v1516 : BitVec 32 := Scalar.addi v2 c5_i32_1070
  let c8_i32_1071 : BitVec 32 := 8#32
  let c0_i32_1072 : BitVec 32 := 0#32
  let v1517 : BitVec 1 := Scalar.cmpi .eq c8_i32_1071 c0_i32_1072
  let c1_i32_1073 : BitVec 32 := 1#32
  let v1518 : BitVec 32 := Scalar.select v1517 c1_i32_1073 c8_i32_1071
  let v1519 : BitVec 32 := Scalar.remsi v1516 v1518
  let c0_i32_1075 : BitVec 32 := 0#32
  let v1521 : BitVec 1 := Scalar.cmpi .slt v1519 c0_i32_1075
  let c0_i32_1076 : BitVec 32 := 0#32
  let v1522 : BitVec 1 := Scalar.cmpi .slt v1518 c0_i32_1076
  let v1523 : BitVec 1 := Scalar.xori v1521 v1522
  let c0_i32_1074 : BitVec 32 := 0#32
  let v1520 : BitVec 1 := Scalar.cmpi .ne v1519 c0_i32_1074
  let v1524 : BitVec 1 := Scalar.andi v1523 v1520
  let v1525 : BitVec 32 := Scalar.addi v1519 v1518
  let v1526 : BitVec 32 := Scalar.select v1524 v1525 v1519
  let c1_i32_1079 : BitVec 32 := 1#32
  let v1527 : BitVec 32 := Scalar.muli v1526 c1_i32_1079
  let v1528 : BitVec 32 := Scalar.addi c0_i32_1080 v1527
  v1528.toNat
def k0_dev14 (d0 : Dev nD) : Nat :=
  let c0_i32_1258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1248 : BitVec 32 := 6#32
  let v1769 : BitVec 32 := Scalar.addi v2 c6_i32_1248
  let c8_i32_1249 : BitVec 32 := 8#32
  let c0_i32_1250 : BitVec 32 := 0#32
  let v1770 : BitVec 1 := Scalar.cmpi .eq c8_i32_1249 c0_i32_1250
  let c1_i32_1251 : BitVec 32 := 1#32
  let v1771 : BitVec 32 := Scalar.select v1770 c1_i32_1251 c8_i32_1249
  let v1772 : BitVec 32 := Scalar.remsi v1769 v1771
  let c0_i32_1253 : BitVec 32 := 0#32
  let v1774 : BitVec 1 := Scalar.cmpi .slt v1772 c0_i32_1253
  let c0_i32_1254 : BitVec 32 := 0#32
  let v1775 : BitVec 1 := Scalar.cmpi .slt v1771 c0_i32_1254
  let v1776 : BitVec 1 := Scalar.xori v1774 v1775
  let c0_i32_1252 : BitVec 32 := 0#32
  let v1773 : BitVec 1 := Scalar.cmpi .ne v1772 c0_i32_1252
  let v1777 : BitVec 1 := Scalar.andi v1776 v1773
  let v1778 : BitVec 32 := Scalar.addi v1772 v1771
  let v1779 : BitVec 32 := Scalar.select v1777 v1778 v1772
  let c1_i32_1257 : BitVec 32 := 1#32
  let v1780 : BitVec 32 := Scalar.muli v1779 c1_i32_1257
  let v1781 : BitVec 32 := Scalar.addi c0_i32_1258 v1780
  v1781.toNat
def k0_dev15 (d0 : Dev nD) : Nat :=
  let c0_i32_1422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1412 : BitVec 32 := 7#32
  let v2004 : BitVec 32 := Scalar.addi v2 c7_i32_1412
  let c8_i32_1413 : BitVec 32 := 8#32
  let c0_i32_1414 : BitVec 32 := 0#32
  let v2005 : BitVec 1 := Scalar.cmpi .eq c8_i32_1413 c0_i32_1414
  let c1_i32_1415 : BitVec 32 := 1#32
  let v2006 : BitVec 32 := Scalar.select v2005 c1_i32_1415 c8_i32_1413
  let v2007 : BitVec 32 := Scalar.remsi v2004 v2006
  let c0_i32_1417 : BitVec 32 := 0#32
  let v2009 : BitVec 1 := Scalar.cmpi .slt v2007 c0_i32_1417
  let c0_i32_1418 : BitVec 32 := 0#32
  let v2010 : BitVec 1 := Scalar.cmpi .slt v2006 c0_i32_1418
  let v2011 : BitVec 1 := Scalar.xori v2009 v2010
  let c0_i32_1416 : BitVec 32 := 0#32
  let v2008 : BitVec 1 := Scalar.cmpi .ne v2007 c0_i32_1416
  let v2012 : BitVec 1 := Scalar.andi v2011 v2008
  let v2013 : BitVec 32 := Scalar.addi v2007 v2006
  let v2014 : BitVec 32 := Scalar.select v2012 v2013 v2007
  let c1_i32_1421 : BitVec 32 := 1#32
  let v2015 : BitVec 32 := Scalar.muli v2014 c1_i32_1421
  let v2016 : BitVec 32 := Scalar.addi c0_i32_1422 v2015
  v2016.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Program.lean ====
/-
# The kernel's body as stages

The kernel multiplies each device's 512 rows by the whole weight matrix, applies a gelu, and exchanges the
products all to all over 8 devices. The printed body lists some three hundred memory operations one after
another. Here they are grouped: one copy of a column tile of the weights (`wStart`), one product of that tile
kept on this device (`tileOwn`) or staged for another one (`tileOut`), one send of a finished block (`send`), one
arrival of another device's block (`recv`), one end of a send (`sendEnd`). `body_eq` says that the printed
body is these stages in order.
-/
module

public import proofs.«01_k».proof.Proof.Gen.KernelIdeal
public import proofs.«01_k».proof.Proof.Gen.KernelIdeal.Skeleton

@[expose] public section

noncomputable section

namespace Cert.KernelIdeal.Proof

open Cert.KernelIdeal Cert.KernelIdeal.Gen
open Idealize.ShloMosaic Idealize.SL.Sem

variable {F : FTy → Type} [FloatOps F]

/-! ## Facts on the windows -/

/-- The two slots of the weight buffer lie inside it. -/
theorem inb_wSlot (k : ℕ) (hk : k < 2) : ∀ a, (![k, 0, 0] : Fin 3 → Nat) a + S1x4096x256.size a ≤ S2x4096x256.size a := by
  decide +revert +kernel
/-- The two cells of the weight copies. -/
theorem inb_wCell (k : ℕ) (hk : k < 2) : ∀ a, (![k] : Fin 1 → Nat) a + S1.size a ≤ S2.size a := by
  decide +revert +kernel
/-- The eight cells of the sends, and of the arrivals. -/
theorem inb_cell (t : ℕ) (ht : t < 8) : ∀ a, (![t] : Fin 1 → Nat) a + S1.size a ≤ S8.size a := by
  decide +revert +kernel
/-- The eight blocks of a block buffer. -/
theorem inb_block (t : ℕ) (ht : t < 8) : ∀ a, (![t, 0, 0] : Fin 3 → Nat) a + S1x512x1024.size a ≤ S8x512x1024.size a := by
  decide +revert +kernel
/-- The four column tiles of each block. -/
theorem inb_tile (t : ℕ) (ht : t < 8) (s : ℕ) (hs : s < 4) :
    ∀ a, (![t, 0, 256 * s] : Fin 3 → Nat) a + S1x512x256.size a ≤ S8x512x1024.size a := by
  decide +revert +kernel
/-- The eight row blocks of the result. -/
theorem inb_rows (t : ℕ) (ht : t < 8) : ∀ a, (![512 * t, 0] : Fin 2 → Nat) a + S512x1024.size a ≤ S4096x1024.size a := by
  decide +revert +kernel
/-- A block is whole words of the buffer. -/
theorem words_block (t : ℕ) (ht : t < 8) :
    (Rect.unit (s := S8x512x1024) ![t, 0, 0] S1x512x1024.size (inb_block t ht)).WholeWords (EltTy.packing .bf16) := by
  decide +revert +kernel
/-- A tile of a block is packed rows of the buffer. -/
theorem packed_tile (t : ℕ) (ht : t < 8) (s : ℕ) (hs : s < 4) :
    (Rect.unit (s := S8x512x1024) ![t, 0, 256 * s] S1x512x256.size (inb_tile t ht s hs)).PackedRows (EltTy.packing .bf16) := by
  decide +revert +kernel

/-! ## The views -/

variable (arg0 : Memref sig .tc .vmem S512x4096 .f32) (arg1 : Memref sig .tc .hbm S4096x8192 .f32) (arg2 : Memref sig .tc .vmem S4096x1024 .f32)
variable (arg3 : Memref sig .tc .vmem S512x4096 .bf16) (arg4 : Memref sig .tc .vmem S2x4096x256 .f32) (arg5 : Memref sig .tc .vmem S8x512x1024 .bf16)
variable (arg6 : Memref sig .tc .vmem S8x512x1024 .bf16) (arg7 : DmaSems sig S2) (arg8 arg9 : DmaSems sig S8)

/-- Slot `k` of the weight buffer. -/
abbrev wSlot (k : ℕ) (hk : k < 2) : Memref sig .tc .vmem S4096x256 .f32 :=
  (arg4.slice (Rect.unit (s := S2x4096x256) ![k, 0, 0] S1x4096x256.size (inb_wSlot k hk)) (fun _ => rfl)).squeeze S4096x256 squeezes_S1x4096x256_S4096x256
/-- The cell that slot's copies complete on. -/
abbrev wCell (k : ℕ) (hk : k < 2) : DmaSem sig :=
  ((arg7.slice (Rect.unit (s := S2) ![k] S1.size (inb_wCell k hk))).squeeze S_ squeezes_S1_S_).sem
/-- The weights' columns of tile `s` of the block for the device `t` places on. -/
abbrev wCols (d : Dev nD) (t : Fin 8) (s : Fin 4) : Memref sig .tc .hbm S4096x256 .f32 :=
  arg1.slice (Rect.unit (s := S4096x8192) (k0_off1 d (BitVec.ofNat 32 t.val) (BitVec.ofNat 32 (256 * s.val))) S4096x256.size (k0_off1_inb d t s)) (fun _ => rfl)
/-- A cell of eight, read as its semaphore. -/
abbrev cell8 (arg : DmaSems sig S8) (t : ℕ) (ht : t < 8) : DmaSem sig :=
  ((arg.slice (Rect.unit (s := S8) ![t] S1.size (inb_cell t ht))).squeeze S_ squeezes_S1_S_).sem
/-- The cell of eight at this device's number. -/
abbrev cellMy (arg : DmaSems sig S8) (d : Dev nD) : DmaSem sig :=
  ((arg.slice (Rect.unit (s := S8) (k0_off6 d) S1.size (k0_off6_inb d))).squeeze S_ squeezes_S1_S_).sem
/-- Block `t` of a block buffer. -/
abbrev block8 (arg : Memref sig .tc .vmem S8x512x1024 .bf16) (t : ℕ) (ht : t < 8) : Memref sig .tc .vmem S512x1024 .bf16 :=
  (arg.slice (Rect.unit (s := S8x512x1024) ![t, 0, 0] S1x512x1024.size (inb_block t ht)) (fun _ => rfl)).squeeze S512x1024 squeezes_S1x512x1024_S512x1024
/-- The block of a block buffer at this device's number. -/
abbrev blockMy (arg : Memref sig .tc .vmem S8x512x1024 .bf16) (d : Dev nD) : Memref sig .tc .vmem S512x1024 .bf16 :=
  (arg.slice (Rect.unit (s := S8x512x1024) (k0_off7 d) S1x512x1024.size (k0_off7_inb d)) (fun _ => rfl)).squeeze S512x1024 squeezes_S1x512x1024_S512x1024

/-! ## The stages -/

/-- A program of one core. -/
abbrev PR (F : FTy → Type) [FloatOps F] (α : Type) := Prog (TpuEff nD τ sig (Elt F) Λ₀ .tc) α

/-- The barrier's semaphore. -/
abbrev barS : Sem sig := (SemArray.scalar (sig.barrier 0 rfl) : Sems sig S_).sem

/-- One unit to every device's barrier, then eight units off this device's own. -/
def barrier : PR F PUnit := do
  semSignalWord (⟨k0_dev1, k0_dev1_lt⟩ : Dev nD) barS 1#32
  semSignalWord (⟨k0_dev2, k0_dev2_lt⟩ : Dev nD) barS 1#32
  semSignalWord (⟨k0_dev3, k0_dev3_lt⟩ : Dev nD) barS 1#32
  semSignalWord (⟨k0_dev4, k0_dev4_lt⟩ : Dev nD) barS 1#32
  semSignalWord (⟨k0_dev5, k0_dev5_lt⟩ : Dev nD) barS 1#32
  semSignalWord (⟨k0_dev6, k0_dev6_lt⟩ : Dev nD) barS 1#32
  semSignalWord (⟨k0_dev7, k0_dev7_lt⟩ : Dev nD) barS 1#32
  semSignalWord (⟨k0_dev8, k0_dev8_lt⟩ : Dev nD) barS 1#32
  semWaitWord barS 8#32

/-- The rows, cast to bf16. -/
def castRows (harg3 : arg3.IsWhole) : PR F PUnit := do
  let v ← Prog.lift (.load arg0 (Rect.unit (s := S512x4096) ![0, 0] S512x4096.size inb_S512x4096_S512x4096_0_0).toLoadRect (View.loadsAt_vmem h_S512x4096))
  let _ ← Prog.lift (.load arg3 (Rect.unit (s := S512x4096) ![0, 0] S512x4096.size inb_S512x4096_S512x4096_0_0).toLoadRect (View.loadsAt_vmem h_S512x4096))
  Prog.lift (.store arg3 (Rect.unit (s := S512x4096) ![0, 0] S512x4096.size inb_S512x4096_S512x4096_0_0) (k0_pay1 v) Finset.univ (View.stores_vmem h_S512x4096 (harg3.storeExact_slice rfl _ packedbf16_S512x4096_S512x4096_0_0) (fun _ => rfl)) (.inl rfl))

/-- Start the copy of weight tile `(t, s)` into slot `k`. -/
def wStart (d : Dev nD) (t : Fin 8) (s : Fin 4) (k : ℕ) (hk : k < 2) : PR F PUnit :=
  Prog.lift (.enqueueDma (wCols arg1 d t s) (.here (wSlot arg4 k hk)) (.dma (wCell arg7 k hk)) (View.wordExact_bits rfl) ((View.wordExact_bits rfl).reshape _ _) ⟨Or.inl rfl, trivial⟩)

/-- Wait for the copy of weight tile `(t, s)` in slot `k`, and read the tile and the rows. -/
def wTake (d : Dev nD) (t : Fin 8) (s : Fin 4) (k : ℕ) (hk : k < 2) : PR F (Vec F S1x4096x256 .f32 × Vec F S512x4096 .bf16) := do
  Prog.lift (.waitDma2 (wCell arg7 k hk) (wCols arg1 d t s) (wSlot arg4 k hk) (View.wordExact_bits rfl) ((View.wordExact_bits rfl).reshape _ _))
  let w ← Prog.lift (.load arg4 (Rect.unit (s := S2x4096x256) ![k, 0, 0] S1x4096x256.size (inb_wSlot k hk)).toLoadRect (View.loadsAt_vmem h_S1x4096x256))
  let x ← Prog.lift (.load arg3 (Rect.unit (s := S512x4096) ![0, 0] S512x4096.size inb_S512x4096_S512x4096_0_0).toLoadRect (View.loadsAt_vmem h_S512x4096))
  pure (w, x)

/-- A tile of this device's own block, stored in the result at the offsets `off`. -/
def tileOwn (d : Dev nD) (s : Fin 4) (k : ℕ) (hk : k < 2) (off : Fin 2 → ℕ) (hoff : ∀ a, off a + S512x256.size a ≤ S4096x1024.size a) : PR F PUnit := do
  let wx ← wTake arg1 arg3 arg4 arg7 d 0 s k hk
  let _ ← Prog.lift (.load arg2 (Rect.unit (s := S4096x1024) off S512x256.size hoff).toLoadRect (View.loadsAt_vmem h_S512x256))
  Prog.lift (.store arg2 (Rect.unit (s := S4096x1024) off S512x256.size hoff) (k0_pay2 wx.1 wx.2) Finset.univ (View.stores_vmem_bits_univ h_S512x256 rfl) (.inl rfl))

/-- The tile a block buffer is given. -/
def tilePay (w : Vec F S1x4096x256 .f32) (x : Vec F S512x4096 .bf16) : FVec F S1x512x256 .bf16 :=
  shapeCast S1x512x256 (truncf .bf16 (k0_pay2 w x) bitsLt_bf16_f32) shapeCasts_S512x256_S1x512x256

/-- A tile of the block for another device, staged in block `t`. -/
def tileOut (harg5 : arg5.IsWhole) (d : Dev nD) (t : Fin 8) (s : Fin 4) (k : ℕ) (hk : k < 2) : PR F PUnit := do
  let wx ← wTake arg1 arg3 arg4 arg7 d t s k hk
  let _ ← Prog.lift (.load arg5 (Rect.unit (s := S8x512x1024) ![t.val, 0, 256 * s.val] S1x512x256.size (inb_tile t.val t.isLt s.val s.isLt)).toLoadRect (View.loadsAt_vmem h_S1x512x256))
  Prog.lift (.store arg5 (Rect.unit (s := S8x512x1024) ![t.val, 0, 256 * s.val] S1x512x256.size (inb_tile t.val t.isLt s.val s.isLt)) (tilePay wx.1 wx.2) Finset.univ (View.stores_vmem h_S1x512x256 (harg5.storeExact_slice rfl _ (packed_tile t.val t.isLt s.val s.isLt)) (fun _ => rfl)) (.inl rfl))

/-- Send block `t` to device `dst`, into its arrival block at this device's number. -/
def send (harg5 : arg5.IsWhole) (harg6 : arg6.IsWhole) (d : Dev nD) (t : Fin 8) (dst : Dev nD) : PR F PUnit :=
  Prog.lift (.enqueueDma (block8 arg5 t.val t.isLt) (.remote (Dev.tc dst) (blockMy arg6 d) (.dma (cell8 arg8 t.val t.isLt))) (.dma (cellMy arg9 d)) ((harg5.wordExact_slice rfl _ (words_block t.val t.isLt)).reshape _ _) ((harg6.wordExact_slice rfl _ (k0_off7_wordsbf16 d)).reshape _ _) ⟨⟨rfl, Or.inl rfl⟩, trivial⟩)

/-- Wait for the end of the send of block `t`. -/
def sendEnd (harg5 : arg5.IsWhole) (harg6 : arg6.IsWhole) (d : Dev nD) (t : Fin 8) : PR F PUnit :=
  Prog.lift (.waitDma2 (cell8 arg8 t.val t.isLt) (blockMy arg6 d) (block8 arg5 t.val t.isLt) ((harg6.wordExact_slice rfl _ (k0_off7_wordsbf16 d)).reshape _ _) ((harg5.wordExact_slice rfl _ (words_block t.val t.isLt)).reshape _ _))

/-- This device's number as the word the tests compare. -/
abbrev meW (d : Dev nD) : BitVec 32 := Scalar.remsi (Scalar.divsi (Dev.word d) 1#32) 8#32
/-- The test that device `src` is not this one. -/
abbrev notMe (w : BitVec 32) (src : ℕ) : BitVec 1 := Scalar.cmpi .ne w (BitVec.ofNat 32 src)
/-- A test's bit widened and tested again. -/
abbrev retest (b : BitVec 1) : BitVec 1 := Scalar.cmpi .ne (Scalar.extui b : BitVec 32) 0#32

/-- Under the test `b`: wait for the block device `src` sends, and store it, cast back, in the result's rows of that
device; then go on with `K`. -/
def recv (harg5 : arg5.IsWhole) (harg6 : arg6.IsWhole) (b : BitVec 1) (src : ℕ) (hs : src < 8) {α : Type} (K : Unit → PR F α) : PR F α :=
  if h : b = 1#1 then do
    Prog.lift (.waitDma2 (cell8 arg9 src hs) (block8 arg5 1 (by decide)) (block8 arg6 src hs) ((harg5.wordExact_slice rfl _ wordsbf16_S8x512x1024_S1x512x1024_1_0_0).reshape _ _) ((harg6.wordExact_slice rfl _ (words_block src hs)).reshape _ _))
    let v ← Prog.lift (.load arg6 (Rect.unit (s := S8x512x1024) ![src, 0, 0] S1x512x1024.size (inb_block src hs)).toLoadRect (View.loadsAt_vmem h_S1x512x1024))
    let _ ← Prog.lift (.load arg2 (Rect.unit (s := S4096x1024) ![512 * src, 0] S512x1024.size (inb_rows src hs)).toLoadRect (View.loadsAt_vmem h_S512x1024))
    Prog.lift (.store arg2 (Rect.unit (s := S4096x1024) ![512 * src, 0] S512x1024.size (inb_rows src hs)) (k0_pay66 v) Finset.univ (View.stores_vmem_bits_univ h_S512x1024 rfl) (.inl rfl))
    K ⟨⟩
  else K ⟨⟩

/-- Block 0: this device's own. -/
def blockOwn (d : Dev nD) : PR F PUnit := do
  wStart arg1 arg4 arg7 d 0 0 0 (by decide)
  wStart arg1 arg4 arg7 d 0 1 1 (by decide)
  tileOwn arg1 arg2 arg3 arg4 arg7 d 0 0 (by decide) (k0_off2 d) (k0_off2_inb d)
  wStart arg1 arg4 arg7 d 0 2 0 (by decide)
  tileOwn arg1 arg2 arg3 arg4 arg7 d 1 1 (by decide) (k0_off3 d) (k0_off3_inb d)
  wStart arg1 arg4 arg7 d 0 3 1 (by decide)
  tileOwn arg1 arg2 arg3 arg4 arg7 d 2 0 (by decide) (k0_off4 d) (k0_off4_inb d)
  wStart arg1 arg4 arg7 d 1 0 0 (by decide)
  tileOwn arg1 arg2 arg3 arg4 arg7 d 3 1 (by decide) (k0_off5 d) (k0_off5_inb d)

/-- The first three tiles of block `t` for another device. -/
def blockHead (harg5 : arg5.IsWhole) (d : Dev nD) (t : Fin 8) : PR F PUnit := do
  wStart arg1 arg4 arg7 d t 1 1 (by decide)
  tileOut arg1 arg3 arg4 arg5 arg7 harg5 d t 0 0 (by decide)
  wStart arg1 arg4 arg7 d t 2 0 (by decide)
  tileOut arg1 arg3 arg4 arg5 arg7 harg5 d t 1 1 (by decide)
  wStart arg1 arg4 arg7 d t 3 1 (by decide)
  tileOut arg1 arg3 arg4 arg5 arg7 harg5 d t 2 0 (by decide)

/-- The last tile of block `t` and its send. -/
def blockTail (harg5 : arg5.IsWhole) (harg6 : arg6.IsWhole) (d : Dev nD) (t : Fin 8) (dst : Dev nD) : PR F PUnit := do
  tileOut arg1 arg3 arg4 arg5 arg7 harg5 d t 3 1 (by decide)
  send arg5 arg6 arg8 arg9 harg5 harg6 d t dst

/-- Block `t` for device `dst`, the next block's first weight tile on its way. -/
def blockOut (harg5 : arg5.IsWhole) (harg6 : arg6.IsWhole) (d : Dev nD) (t t' : Fin 8) (dst : Dev nD) : PR F PUnit := do
  blockHead arg1 arg3 arg4 arg5 arg7 harg5 d t
  wStart arg1 arg4 arg7 d t' 0 0 (by decide)
  blockTail arg1 arg3 arg4 arg5 arg6 arg7 arg8 arg9 harg5 harg6 d t dst

/-- The arrivals of blocks 1 to 7. -/
def recvs (harg5 : arg5.IsWhole) (harg6 : arg6.IsWhole) (w : BitVec 32) (b : BitVec 1) : PR F PUnit :=
  recv arg2 arg5 arg6 arg9 harg5 harg6 (retest b) 1 (by decide) fun _ =>
  recv arg2 arg5 arg6 arg9 harg5 harg6 (retest (notMe w 2)) 2 (by decide) fun _ =>
  recv arg2 arg5 arg6 arg9 harg5 harg6 (retest (notMe w 3)) 3 (by decide) fun _ =>
  recv arg2 arg5 arg6 arg9 harg5 harg6 (retest (notMe w 4)) 4 (by decide) fun _ =>
  recv arg2 arg5 arg6 arg9 harg5 harg6 (retest (notMe w 5)) 5 (by decide) fun _ =>
  recv arg2 arg5 arg6 arg9 harg5 harg6 (retest (notMe w 6)) 6 (by decide) fun _ =>
  recv arg2 arg5 arg6 arg9 harg5 harg6 (retest (notMe w 7)) 7 (by decide) fun _ => pure ⟨⟩

/-- The ends of all sends. -/
def sendEnds (harg5 : arg5.IsWhole) (harg6 : arg6.IsWhole) (d : Dev nD) : PR F PUnit := do
  sendEnd arg5 arg6 arg8 harg5 harg6 d 1
  sendEnd arg5 arg6 arg8 harg5 harg6 d 2
  sendEnd arg5 arg6 arg8 harg5 harg6 d 3
  sendEnd arg5 arg6 arg8 harg5 harg6 d 4
  sendEnd arg5 arg6 arg8 harg5 harg6 d 5
  sendEnd arg5 arg6 arg8 harg5 harg6 d 6
  sendEnd arg5 arg6 arg8 harg5 harg6 d 7

/-- The body up to the test for the arrival of block 1, with the device, its number as a word and that test. -/
def front (harg3 : arg3.IsWhole) (harg5 : arg5.IsWhole) (harg6 : arg6.IsWhole) : PR F (Σ' (d0 : Dev nD) (v2 : BitVec 32), BitVec 1) := do
  let d ← Prog.lift .deviceId
  barrier
  castRows arg0 arg3 harg3
  blockOwn arg1 arg2 arg3 arg4 arg7 d
  blockOut arg1 arg3 arg4 arg5 arg6 arg7 arg8 arg9 harg5 harg6 d 1 2 ⟨k0_dev9 d, k0_dev9_lt d⟩
  blockOut arg1 arg3 arg4 arg5 arg6 arg7 arg8 arg9 harg5 harg6 d 2 3 ⟨k0_dev10 d, k0_dev10_lt d⟩
  blockOut arg1 arg3 arg4 arg5 arg6 arg7 arg8 arg9 harg5 harg6 d 3 4 ⟨k0_dev11 d, k0_dev11_lt d⟩
  blockOut arg1 arg3 arg4 arg5 arg6 arg7 arg8 arg9 harg5 harg6 d 4 5 ⟨k0_dev12 d, k0_dev12_lt d⟩
  blockOut arg1 arg3 arg4 arg5 arg6 arg7 arg8 arg9 harg5 harg6 d 5 6 ⟨k0_dev13 d, k0_dev13_lt d⟩
  blockOut arg1 arg3 arg4 arg5 arg6 arg7 arg8 arg9 harg5 harg6 d 6 7 ⟨k0_dev14 d, k0_dev14_lt d⟩
  blockHead arg1 arg3 arg4 arg5 arg7 harg5 d 7
  blockTail arg1 arg3 arg4 arg5 arg6 arg7 arg8 arg9 harg5 harg6 d 7 ⟨k0_dev15 d, k0_dev15_lt d⟩
  let b ← recv arg2 arg5 arg6 arg9 harg5 harg6 (retest (notMe (meW d) 0)) 0 (by decide) fun _ => pure (notMe (meW d) 1)
  pure ⟨d, meW d, b⟩

/-- The whole body. -/
def body (harg3 : arg3.IsWhole) (harg5 : arg5.IsWhole) (harg6 : arg6.IsWhole) : PR F PUnit := do
  let ⟨d0, v2, b⟩ : Σ' (d0 : Dev nD) (v2 : BitVec 32), BitVec 1 ← front arg0 arg1 arg2 arg3 arg4 arg5 arg6 arg7 arg8 arg9 harg3 harg5 harg6
  recvs arg2 arg5 arg6 arg9 harg5 harg6 v2 b
  sendEnds arg5 arg6 arg8 harg5 harg6 d0

set_option maxRecDepth 65536 in
set_option maxHeartbeats 0 in
/-- The printed body is the stages in order, by unfolding. -/
theorem body_eq (harg0 : arg0.IsWhole) (harg1 : arg1.IsWhole) (harg2 : arg2.IsWhole) (harg3 : arg3.IsWhole) (harg4 : arg4.IsWhole)
    (harg5 : arg5.IsWhole) (harg6 : arg6.IsWhole) :
    cc0_body (F := F) arg0 harg0 arg1 harg1 arg2 harg2 arg3 harg3 arg4 harg4 arg5 harg5 arg6 harg6 arg7 arg8 arg9
      = body arg0 arg1 arg2 arg3 arg4 arg5 arg6 arg7 arg8 arg9 harg3 harg5 harg6 := by
  rfl

end Cert.KernelIdeal.Proof
-- ==== Proof.KernelIdeal.Contents.lean ====
/-
# What the buffers hold

Each device holds 512 rows of `x` and all of `w`. It computes eight blocks of 512 × 1024: block `t` is its rows times
the 1024 columns of `w` that belong to the device `t` places on, with the gelu applied. Block 0 is its own part of
the result. Blocks 1 to 7, rounded to bf16, are sent. This file names these contents as functions of the memory
at launch, and says what the kernel's windows read of them.
-/
module

public import proofs.«01_k».proof.Proof.KernelIdeal.Program
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.ValueLayout

@[expose] public section

noncomputable section

namespace Cert.KernelIdeal.Proof

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The devices -/

/-- The device `t` places on. -/
def pls (c : Dev nD) (t : Fin 8) : Dev nD := ⟨(c.val + t.val) % 8, Nat.mod_lt _ (by decide)⟩
/-- How many places on from `p` the device `c` is. -/
def mns (c p : Dev nD) : Fin 8 := ⟨(c.val + 8 - p.val) % 8, Nat.mod_lt _ (by decide)⟩

theorem pls_mns (c p : Dev nD) : pls p (mns c p) = c := by revert c p; decide +kernel
theorem mns_pls (c : Dev nD) (t : Fin 8) : mns (pls c t) c = t := by revert c t; decide +kernel
theorem pls_eq_self_iff (c : Dev nD) (t : Fin 8) : Iff (pls c t = c) (t = 0) := by revert c t; decide +kernel
theorem mns_eq_zero_iff (c p : Dev nD) : Iff (mns c p = 0) (p = c) := by revert c p; decide +kernel

theorem dev1_eq : (⟨k0_dev1, k0_dev1_lt⟩ : Dev nD) = 0 := by decide
theorem dev2_eq : (⟨k0_dev2, k0_dev2_lt⟩ : Dev nD) = 1 := by decide
theorem dev3_eq : (⟨k0_dev3, k0_dev3_lt⟩ : Dev nD) = 2 := by decide
theorem dev4_eq : (⟨k0_dev4, k0_dev4_lt⟩ : Dev nD) = 3 := by decide
theorem dev5_eq : (⟨k0_dev5, k0_dev5_lt⟩ : Dev nD) = 4 := by decide
theorem dev6_eq : (⟨k0_dev6, k0_dev6_lt⟩ : Dev nD) = 5 := by decide
theorem dev7_eq : (⟨k0_dev7, k0_dev7_lt⟩ : Dev nD) = 6 := by decide
theorem dev8_eq : (⟨k0_dev8, k0_dev8_lt⟩ : Dev nD) = 7 := by decide
theorem dev9_eq (c : Dev nD) : (⟨k0_dev9 c, k0_dev9_lt c⟩ : Dev nD) = pls c 1 := by revert c; decide +kernel
theorem dev10_eq (c : Dev nD) : (⟨k0_dev10 c, k0_dev10_lt c⟩ : Dev nD) = pls c 2 := by revert c; decide +kernel
theorem dev11_eq (c : Dev nD) : (⟨k0_dev11 c, k0_dev11_lt c⟩ : Dev nD) = pls c 3 := by revert c; decide +kernel
theorem dev12_eq (c : Dev nD) : (⟨k0_dev12 c, k0_dev12_lt c⟩ : Dev nD) = pls c 4 := by revert c; decide +kernel
theorem dev13_eq (c : Dev nD) : (⟨k0_dev13 c, k0_dev13_lt c⟩ : Dev nD) = pls c 5 := by revert c; decide +kernel
theorem dev14_eq (c : Dev nD) : (⟨k0_dev14 c, k0_dev14_lt c⟩ : Dev nD) = pls c 6 := by revert c; decide +kernel
theorem dev15_eq (c : Dev nD) : (⟨k0_dev15 c, k0_dev15_lt c⟩ : Dev nD) = pls c 7 := by revert c; decide +kernel

/-- The test before the arrival of device `p`'s block passes exactly on the other devices. -/
theorem retest_iff (c p : Dev nD) : Iff (retest (notMe (meW c) p.val) = 1#1) (p ≠ c) := by revert c p; decide +kernel

/-! ## The contents -/

section Contents
variable (m : (ℓ : Loc nD τ sig) → Buf (Elt F) ℓ)

/-- Device `c`'s rows of `x`, as they are staged. -/
def xIn (c : Dev nD) : Vec F S512x4096 .f32 :=
  (win0_0.blk (0 : Fin 1)).view.read (Elt F) (m ((c : Thread nD τ).loc main_arg0))
/-- The weights on device `c`. -/
def wIn (c : Dev nD) : Buf (Elt F) ((c : Thread nD τ).loc main_arg1) := m ((c : Thread nD τ).loc main_arg1)
/-- The rows cast to bf16. -/
def xb (c : Dev nD) : Vec F S512x4096 .bf16 := k0_pay1 (xIn m c)
/-- The columns of the weights for tile `s` of the block for the device `t` places on. -/
def wTile (c : Dev nD) (t : Fin 8) (s : Fin 4) : Vec F S4096x256 .f32 :=
  (wCols (Memref.whole main_arg1) c t s).view.read (Elt F) (wIn m c)
/-- The same columns as a slot of the weight buffer is read. -/
def wVec (c : Dev nD) (t : Fin 8) (s : Fin 4) : Vec F S1x4096x256 .f32 :=
  shapeCast S1x4096x256 (wTile m c t s) squeezes_S1x4096x256_S4096x256.numel_eq.symm

/-- The blocks device `c` stages for the others: entry `(t, i, j)` is block `t` at row `i` and column `j`. -/
def blocks (c : Dev nD) : S8x512x1024.Idx → Elt F .bf16 := fun i =>
  tilePay (wVec m c (i 0) ⟨(i 2).val / 256, Nat.div_lt_of_lt_mul (i 2).isLt⟩) (xb m c)
    (ix3 (0 : Fin 1) (i 1) (⟨(i 2).val % 256, Nat.mod_lt _ (by decide)⟩ : Fin 256))

/-- The blocks device `c` receives: entry `(p, i, j)` is the block device `p` computes for `c`. -/
def arrived (c : Dev nD) : S8x512x1024.Idx → Elt F .bf16 := fun i =>
  blocks m (i 0 : Fin 8) (ix3 (mns c (i 0 : Fin 8)) (i 1) (i 2))

/-- The block of device `p` as it is loaded. -/
def blockFrom (c : Dev nD) (p : Fin 8) : Vec F S1x512x1024 .bf16 := fun i => arrived m c (ix3 p (i 1) (i 2))

/-- Device `c`'s part of the result: its own rows are its block 0, the rows of another device the block that
    arrived from there. -/
def outAt (c : Dev nD) : S4096x1024.Idx → Elt F .f32 := fun i =>
  if (i 0).val / 512 = c.val then
    k0_pay2 (wVec m c 0 ⟨(i 1).val / 256, Nat.div_lt_of_lt_mul (i 1).isLt⟩) (xb m c)
      (ix2 (⟨(i 0).val % 512, Nat.mod_lt _ (by decide)⟩ : Fin 512) (⟨(i 1).val % 256, Nat.mod_lt _ (by decide)⟩ : Fin 256))
  else
    k0_pay66 (blockFrom m c ⟨(i 0).val / 512, Nat.div_lt_of_lt_mul (i 0).isLt⟩)
      (ix2 (⟨(i 0).val % 512, Nat.mod_lt _ (by decide)⟩ : Fin 512) (i 1))

/-! ## The windows -/

/-- Tile `s` of block `t`. -/
abbrev tileR (t : Fin 8) (s : Fin 4) : Rect S8x512x1024 :=
  Rect.unit (s := S8x512x1024) ![t.val, 0, 256 * s.val] S1x512x256.size (inb_tile t.val t.isLt s.val s.isLt)
/-- Block `t`. -/
abbrev blockR (t : Fin 8) : Rect S8x512x1024 :=
  Rect.unit (s := S8x512x1024) ![t.val, 0, 0] S1x512x1024.size (inb_block t.val t.isLt)
/-- The rows of device `p` in the result. -/
abbrev rowsR (p : Fin 8) : Rect S4096x1024 :=
  Rect.unit (s := S4096x1024) ![512 * p.val, 0] S512x1024.size (inb_rows p.val p.isLt)
/-- Slot `k` of the weight buffer. -/
abbrev slotR (k : ℕ) (hk : k < 2) : Rect S2x4096x256 :=
  Rect.unit (s := S2x4096x256) ![k, 0, 0] S1x4096x256.size (inb_wSlot k hk)

/-- A write through a view leaves on the view's elements what `g` holds there, when the written vector is what the view
    reads off `g`. -/
theorem write_agrees {κ : Kind} {sp : Space} {s : Shape} {e : EltTy} (v : View sig κ sp s e) (f g : v.ty.Contents (Elt F)) (w : s.Idx → Elt F e)
    (h : v.read (Elt F) g = w) (i : v.ty.Idx) (hi : i ∈ v.set) : v.write (Elt F) f w Finset.univ i = g i := by
  obtain ⟨x, -, rfl⟩ := Finset.mem_map.mp hi
  rw [View.write_emb_of_mem _ _ (Finset.mem_univ x), ← h, View.read_apply, cast_cast, cast_eq]

/-- Staged blocks, read by tile. -/
theorem read_tile (c : Dev nD) (t : Fin 8) (s : Fin 4) :
    ((Memref.whole cc0_scratch2).access (tileR t s) : View sig .tc _ _ _).read (Elt F) (blocks m c) = tilePay (wVec m c t s) (xb m c) := by
  funext j
  show blocks m c ((tileR t s).emb j) = _
  have h0 : ((tileR t s).emb j 0 : Fin 8) = t := Fin.ext (by
    show t.val + 1 * (j 0).val = t.val
    have : (j 0).val < 1 := (j 0).isLt
    omega)
  have h2 : ((tileR t s).emb j 2).val = 256 * s.val + (j 2).val := by
    show 256 * s.val + 1 * (j 2).val = _
    omega
  have hj : (j 2).val < 256 := (j 2).isLt
  have hs : (⟨((tileR t s).emb j 2).val / 256, Nat.div_lt_of_lt_mul ((tileR t s).emb j 2).isLt⟩ : Fin 4) = s := Fin.ext (by
    show ((tileR t s).emb j 2).val / 256 = s.val
    omega)
  unfold blocks
  rw [hs, show (tileR t s).emb j 0 = t from h0]
  refine congrArg _ (funext fun a => Fin.ext ?_)
  match a with
  | ⟨0, _⟩ =>
    show 0 = (j 0).val
    have : (j 0).val < 1 := (j 0).isLt
    omega
  | ⟨1, _⟩ =>
    show 0 + 1 * (j 1).val = (j 1).val
    omega
  | ⟨2, _⟩ =>
    show ((tileR t s).emb j 2).val % 256 = (j 2).val
    omega

/-- The landing of a block: what device `p` sends of its staged blocks is what the receiver's buffer holds of them. -/
theorem read_block (p : Dev nD) (t : Fin 8) :
    (block8 (Memref.whole cc0_scratch3) p.val p.isLt).view.read (Elt F) (arrived m (pls p t))
      = (block8 (Memref.whole cc0_scratch2) t.val t.isLt).view.read (Elt F) (blocks m p) := by
  funext j
  show arrived m (pls p t) ((blockR p).emb (Shape.reshapeEquiv _ j)) = blocks m p ((blockR t).emb (Shape.reshapeEquiv _ j))
  generalize (Shape.reshapeEquiv _ j : S1x512x1024.Idx) = y
  unfold arrived
  have hp : ((blockR p).emb y 0 : Fin 8) = p := Fin.ext (by
    show p.val + 1 * (y 0).val = p.val
    have : (y 0).val < 1 := (y 0).isLt
    omega)
  rw [show (blockR p).emb y 0 = p from hp, mns_pls]
  refine congrArg _ (funext fun a => Fin.ext ?_)
  match a with
  | ⟨0, _⟩ =>
    show t.val = t.val + 1 * (y 0).val
    have : (y 0).val < 1 := (y 0).isLt
    omega
  | ⟨1, _⟩ => rfl
  | ⟨2, _⟩ => rfl

/-- The arrived block of device `p`, loaded. -/
theorem load_block (c : Dev nD) (p : Fin 8) :
    (Memref.whole cc0_scratch3 : Memref sig .tc .vmem S8x512x1024 .bf16).view.readAt (Elt F) (blockR p).toLoadRect (arrived m c) = blockFrom m c p := by
  funext j
  show arrived m c ((blockR p).emb j) = arrived m c (ix3 p (j 1) (j 2))
  refine congrArg _ (funext fun a => Fin.ext ?_)
  match a with
  | ⟨0, _⟩ =>
    show p.val + 1 * (j 0).val = p.val
    have : (j 0).val < 1 := (j 0).isLt
    omega
  | ⟨1, _⟩ =>
    show 0 + 1 * (j 1).val = (j 1).val
    omega
  | ⟨2, _⟩ =>
    show 0 + 1 * (j 2).val = (j 2).val
    omega

/-- The result, read at another device's rows. -/
theorem read_rows (c p : Dev nD) (hp : p ≠ c) :
    ((Memref.whole cc0_stg1_0).access (rowsR p) : View sig .tc _ _ _).read (Elt F) (outAt m c) = k0_pay66 (blockFrom m c p) := by
  funext j
  show outAt m c ((rowsR p).emb j) = _
  have h0 : ((rowsR p).emb j 0).val = 512 * p.val + (j 0).val := by
    show 512 * p.val + 1 * (j 0).val = _
    omega
  have hj : (j 0).val < 512 := (j 0).isLt
  have hd : ((rowsR p).emb j 0).val / 512 = p.val := by omega
  unfold outAt
  rw [if_neg (fun h => hp (Fin.ext (hd.symm.trans h)))]
  rw [show (⟨((rowsR p).emb j 0).val / 512, Nat.div_lt_of_lt_mul ((rowsR p).emb j 0).isLt⟩ : Fin 8) = p from Fin.ext hd]
  refine congrArg _ (funext fun a => Fin.ext ?_)
  match a with
  | ⟨0, _⟩ =>
    show ((rowsR p).emb j 0).val % 512 = (j 0).val
    omega
  | ⟨1, _⟩ =>
    show 0 + 1 * (j 1).val = (j 1).val
    omega

/-- The result, read at a tile of the device's own rows. -/
theorem read_own (c : Dev nD) (s : Fin 4) (off : Fin 2 → ℕ) (h : off = ![512 * c.val, 256 * s.val])
    (hoff : ∀ a, off a + S512x256.size a ≤ S4096x1024.size a) :
    ((Memref.whole cc0_stg1_0).access (Rect.unit (s := S4096x1024) off S512x256.size hoff) : View sig .tc _ _ _).read (Elt F) (outAt m c)
      = k0_pay2 (wVec m c 0 s) (xb m c) := by
  subst h
  funext j
  show outAt m c ((Rect.unit (s := S4096x1024) ![512 * c.val, 256 * s.val] S512x256.size hoff).emb j) = _
  generalize hR : (Rect.unit (s := S4096x1024) ![512 * c.val, 256 * s.val] S512x256.size hoff).emb j = y
  have h0 : (y 0).val = 512 * c.val + (j 0).val := by
    subst hR
    show 512 * c.val + 1 * (j 0).val = _
    omega
  have h1 : (y 1).val = 256 * s.val + (j 1).val := by
    subst hR
    show 256 * s.val + 1 * (j 1).val = _
    omega
  have hj0 : (j 0).val < 512 := (j 0).isLt
  have hj1 : (j 1).val < 256 := (j 1).isLt
  unfold outAt
  rw [if_pos (by omega)]
  rw [show (⟨(y 1).val / 256, Nat.div_lt_of_lt_mul (y 1).isLt⟩ : Fin 4) = s from Fin.ext (by show (y 1).val / 256 = s.val; omega)]
  refine congrArg _ (funext fun a => Fin.ext ?_)
  match a with
  | ⟨0, _⟩ =>
    show (y 0).val % 512 = (j 0).val
    omega
  | ⟨1, _⟩ =>
    show (y 1).val % 256 = (j 1).val
    omega

/-- The tile of the weights that a copy puts in slot `k`, loaded. -/
theorem load_slot (c : Dev nD) (t : Fin 8) (s : Fin 4) (k : ℕ) (hk : k < 2) (f : Buf (Elt F) ((c : Thread nD τ).loc cc0_scratch1))
    (h : (wSlot (Memref.whole cc0_scratch1) k hk).view.read (Elt F) f = wTile m c t s) :
    (Memref.whole cc0_scratch1 : Memref sig .tc .vmem S2x4096x256 .f32).view.readAt (Elt F) (slotR k hk).toLoadRect f = wVec m c t s := by
  funext j
  unfold wVec
  rw [← h]
  show f ((slotR k hk).emb j) = f ((slotR k hk).emb (Shape.reshapeEquiv _ (Shape.reshapeEquiv _ j)))
  rw [Shape.reshapeEquiv_reshapeEquiv, Shape.reshapeEquiv_self]

end Contents

/-! ## The parts of a buffer -/

/-- An element lies in block `t` when its first coordinate is `t`. -/
theorem mem_block (t : Fin 8) (i : S8x512x1024.Idx) : Iff (i ∈ (blockR t).set) ((i 0).val = t.val) := by
  rw [Rect.mem_set_unit]
  constructor
  · intro h
    have := h 0
    simp only [Matrix.cons_val_zero] at this
    have h1 : S1x512x1024.size 0 = 1 := rfl
    omega
  · intro h a
    match a with
    | ⟨0, _⟩ =>
      show t.val ≤ (i 0).val ∧ (i 0).val < t.val + 1
      omega
    | ⟨1, _⟩ =>
      show 0 ≤ (i 1).val ∧ (i 1).val < 0 + 512
      have : (i 1).val < 512 := (i 1).isLt
      omega
    | ⟨2, _⟩ =>
      show 0 ≤ (i 2).val ∧ (i 2).val < 0 + 1024
      have : (i 2).val < 1024 := (i 2).isLt
      omega

/-- An element lies in tile `s` of block `t` by its first and last coordinates. -/
theorem mem_tile (t : Fin 8) (s : Fin 4) (i : S8x512x1024.Idx) :
    Iff (i ∈ (tileR t s).set) ((i 0).val = t.val ∧ (i 2).val / 256 = s.val) := by
  rw [Rect.mem_set_unit]
  constructor
  · intro h
    have h0 : t.val ≤ (i 0).val ∧ (i 0).val < t.val + 1 := h 0
    have h2 : 256 * s.val ≤ (i 2).val ∧ (i 2).val < 256 * s.val + 256 := h 2
    omega
  · rintro ⟨h0, h2⟩ a
    match a with
    | ⟨0, _⟩ =>
      show t.val ≤ (i 0).val ∧ (i 0).val < t.val + 1
      omega
    | ⟨1, _⟩ =>
      show 0 ≤ (i 1).val ∧ (i 1).val < 0 + 512
      have : (i 1).val < 512 := (i 1).isLt
      omega
    | ⟨2, _⟩ =>
      show 256 * s.val ≤ (i 2).val ∧ (i 2).val < 256 * s.val + 256
      omega

/-- An element lies in the rows of device `p` by its first coordinate. -/
theorem mem_rows (p : Fin 8) (i : S4096x1024.Idx) : Iff (i ∈ (rowsR p).set) ((i 0).val / 512 = p.val) := by
  rw [Rect.mem_set_unit]
  constructor
  · intro h
    have h0 : 512 * p.val ≤ (i 0).val ∧ (i 0).val < 512 * p.val + 512 := h 0
    omega
  · rintro h0 a
    match a with
    | ⟨0, _⟩ =>
      show 512 * p.val ≤ (i 0).val ∧ (i 0).val < 512 * p.val + 512
      omega
    | ⟨1, _⟩ =>
      show 0 ≤ (i 1).val ∧ (i 1).val < 0 + 1024
      have : (i 1).val < 1024 := (i 1).isLt
      omega

/-- An element lies in tile `s` of device `c`'s own rows by its coordinates. -/
theorem mem_own (c : Dev nD) (s : Fin 4) (off : Fin 2 → ℕ) (h : off = ![512 * c.val, 256 * s.val])
    (hoff : ∀ a, off a + S512x256.size a ≤ S4096x1024.size a) (i : S4096x1024.Idx) :
    Iff (i ∈ (Rect.unit (s := S4096x1024) off S512x256.size hoff).set) ((i 0).val / 512 = c.val ∧ (i 1).val / 256 = s.val) := by
  subst h
  rw [Rect.mem_set_unit]
  constructor
  · intro h
    have h0 : 512 * c.val ≤ (i 0).val ∧ (i 0).val < 512 * c.val + 512 := h 0
    have h1 : 256 * s.val ≤ (i 1).val ∧ (i 1).val < 256 * s.val + 256 := h 1
    omega
  · rintro ⟨h0, h1⟩ a
    match a with
    | ⟨0, _⟩ =>
      show 512 * c.val ≤ (i 0).val ∧ (i 0).val < 512 * c.val + 512
      omega
    | ⟨1, _⟩ =>
      show 256 * s.val ≤ (i 1).val ∧ (i 1).val < 256 * s.val + 256
      omega

/-- The elements of a slot. -/
theorem mem_slot (k : ℕ) (hk : k < 2) (i : S2x4096x256.Idx) : Iff (i ∈ (slotR k hk).set) ((i 0).val = k) := by
  rw [Rect.mem_set_unit]
  constructor
  · intro h
    have h0 : k ≤ (i 0).val ∧ (i 0).val < k + 1 := h 0
    omega
  · intro h a
    match a with
    | ⟨0, _⟩ =>
      show k ≤ (i 0).val ∧ (i 0).val < k + 1
      omega
    | ⟨1, _⟩ =>
      show 0 ≤ (i 1).val ∧ (i 1).val < 0 + 4096
      have : (i 1).val < 4096 := (i 1).isLt
      omega
    | ⟨2, _⟩ =>
      show 0 ≤ (i 2).val ∧ (i 2).val < 0 + 256
      have : (i 2).val < 256 := (i 2).isLt
      omega

/-- The window of a block covers the block. -/
theorem set_block8_2 (t : Fin 8) : (block8 (Memref.whole cc0_scratch2) t.val t.isLt).view.set = (blockR t).set :=
  (View.set_reshape _ _).trans (View.set_slice_whole cc0_scratch2 (blockR t))
theorem set_block8_3 (t : Fin 8) : (block8 (Memref.whole cc0_scratch3) t.val t.isLt).view.set = (blockR t).set :=
  (View.set_reshape _ _).trans (View.set_slice_whole cc0_scratch3 (blockR t))
theorem set_wSlot (k : ℕ) (hk : k < 2) : (wSlot (Memref.whole cc0_scratch1) k hk).view.set = (slotR k hk).set :=
  (View.set_reshape _ _).trans (View.set_slice_whole cc0_scratch1 (slotR k hk))

/-- The window at this device's number is the window of that block. -/
theorem blockMy_eq (arg : Memref sig .tc .vmem S8x512x1024 .bf16) (d : Dev nD) : blockMy arg d = block8 arg d.val d.isLt := by
  have h (off off' : Fin 3 → ℕ) (e : off = off') (i : ∀ a, off a + S1x512x1024.size a ≤ S8x512x1024.size a) (i' : ∀ a, off' a + S1x512x1024.size a ≤ S8x512x1024.size a) :
      arg.slice (Rect.unit (s := S8x512x1024) off S1x512x1024.size i) (fun _ => rfl) = arg.slice (Rect.unit (s := S8x512x1024) off' S1x512x1024.size i') (fun _ => rfl) := by
    subst e; rfl
  unfold blockMy block8
  rw [h _ _ (k0_off7_eq d) _ (inb_block d.val d.isLt)]

/-- The cell at this device's number is that cell. -/
theorem cellMy_eq (d : Dev nD) : cellMy cc0_scratch6 d = cell8 cc0_scratch6 d.val d.isLt := by revert d; decide +kernel

end Cert.KernelIdeal.Proof
-- ==== Proof.KernelIdeal.Protocol.lean ====
/-
# The protocol

Eight devices, device `c` among them. Block `t` of device `c` is for the device `c + t` (modulo 8). Who signals, who
waits, how much, and what each landing hands over:

* The barrier's cell of device `c` (the runtime's semaphore). Each device `p`, `c` included, signals it once, by one
  unit. Device `c` waits once, for eight units. The unit from `p ≠ c` hands over block `c` of `p`'s arrival buffer,
  with whatever it holds. The unit from `c` itself hands over nothing. So after its wait device `c` holds, on every
  other device, the block its own send will write.
* The cell of slot `k` of the weight buffer on device `c` (two cells). Only `c` uses it: a copy of a weight tile into
  the slot is started, later waited for, and the slot is read; then the next copy into it is started. A landing hands
  back the slot, holding the tile, and the part of the weights that was read.
* The send cell `t` on device `c`, for `t` from 1 to 7 (cell 0 is never used). The send of block `t` completes on it,
  by the block's credit; device `c` waits for it once, at the end. The landing hands back block `t` of the staged
  blocks, with its contents.
* The receive cell `p` on device `c`, for `p ≠ c` (cell `c` is never used). The send of device `p` for `c` lands on it,
  by the block's credit; device `c` waits for it once, after its own sends. The landing hands over block `p` of `c`'s
  arrival buffer, holding the block `p` computed for `c`.

The order on each device: eight signals, the barrier's wait, then block 0 and, for `t` from 1 to 7, block `t` and its
send, then the arrivals in the order of the devices, then the ends of the sends. A device waits for its barrier owing
only sends, for its weight tiles owing only sends, for arrivals and ends of sends owing nothing. So levels: weight
cells, send cells and staging cells 0, barriers 1, receive cells 2.
-/
module

public import proofs.«01_k».proof.Proof.KernelIdeal.Contents

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The rounds of the protocol's cells, a duty being a number below 8. -/
abbrev UB : Type := URounds (GSem nD τ sig) (Fin 8)
/-- The staging cells' rounds, the protocol's rounds, and the counters of local copies. -/
abbrev UU : Type := UR sig nD τ × (UB × Counters)

local notation "𝕄" => MT nD τ sig Unit (Elt F) ℕ UU ℕ

/-- Where the staging cells' rounds live. -/
abbrev EP (F : FTy → Type) : Emb (UR sig nD τ) (MT nD τ sig Unit (Elt F) ℕ UU ℕ) := embL
/-- Where the protocol's rounds live. -/
def ER (F : FTy → Type) : Emb UB (MT nD τ sig Unit (Elt F) ℕ UU ℕ) :=
  (Emb.inl : Emb UB (UB × Counters)).trans (embR : Emb (UB × Counters) (MT nD τ sig Unit (Elt F) ℕ UU ℕ))
instance ER_lands (F : FTy → Type) : (ER F).LandsIn (upEmb : UEmb _ (MT nD τ sig Unit (Elt F) ℕ UU ℕ)) := by unfold ER; infer_instance
/-- Where the counters live. -/
abbrev EC (F : FTy → Type) : UEmb Counters (MT nD τ sig Unit (Elt F) ℕ UU ℕ) := countersEmb (U := UU)

/-! ## The cells -/

/-- A device's cells: its barrier's, its eight send cells, its eight receive cells. -/
abbrev CK : Type := Unit ⊕ (Fin 8 ⊕ Fin 8)

/-- The barrier's cell of device `c`. -/
abbrev barCell (c : Dev nD) : GSem nD τ sig := ((c : Thread nD τ), .reg barS)
/-- Send cell `t` of device `c`. -/
abbrev sendCell (c : Dev nD) (t : Fin 8) : GSem nD τ sig := ((c : Thread nD τ), .dma (cell8 cc0_scratch5 t.val t.isLt))
/-- Receive cell `p` of device `c`. -/
abbrev recvCell (c : Dev nD) (p : Fin 8) : GSem nD τ sig := ((c : Thread nD τ), .dma (cell8 cc0_scratch6 p.val p.isLt))

/-- The semaphore behind a cell. -/
def csem : CK → SemLoc sig
  | .inl _ => .reg barS
  | .inr (.inl t) => .dma (cell8 cc0_scratch5 t.val t.isLt)
  | .inr (.inr p) => .dma (cell8 cc0_scratch6 p.val p.isLt)
/-- Cell `k` of device `c`. -/
abbrev kcell (ck : Dev nD × CK) : GSem nD τ sig := ((ck.1 : Thread nD τ), csem ck.2)

/-- Which cell a semaphore is. -/
def dec : SemLoc sig → Option CK
  | .reg s => if s = barS then some (.inl ()) else none
  | .dma q =>
    if h : 4 ≤ q.val ∧ q.val < 12 then some (.inr (.inl ⟨q.val - 4, by omega⟩))
    else if h : 12 ≤ q.val ∧ q.val < 20 then some (.inr (.inr ⟨q.val - 12, by omega⟩)) else none

theorem dec_csem (k : CK) : dec (csem k) = some k := by revert k; decide +kernel
theorem dec_bar : dec (.reg barS) = some (.inl ()) := by decide +kernel
theorem dec_send (t : Fin 8) : dec (.dma (cell8 cc0_scratch5 t.val t.isLt)) = some (.inr (.inl t)) := dec_csem (.inr (.inl t))
theorem dec_recv (p : Fin 8) : dec (.dma (cell8 cc0_scratch6 p.val p.isLt)) = some (.inr (.inr p)) := dec_csem (.inr (.inr p))
theorem dec_w (k : ℕ) (hk : k < 2) : dec (.dma (wCell cc0_scratch4 k hk)) = none := by
  have h : ∀ k : Fin 2, dec (.dma (wCell cc0_scratch4 k.val k.isLt)) = none := by decide +kernel
  exact h ⟨k, hk⟩
theorem csem_injective : Function.Injective csem := fun a b h => Option.some.inj (by rw [← dec_csem, ← dec_csem, h])
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of a block's copy. -/
abbrev N : ℕ := (block8 (Memref.whole cc0_scratch3) 0 (by decide)).view.dmaCredit
theorem N_pos : 0 < N := View.dmaCredit_pos _ (by decide)

/-! ## The payloads -/

section Sched
variable (m : (ℓ : Loc nD τ sig) → Buf (Elt F) ℓ)

/-- Block `t` of device `c`'s arrival buffer, with whatever it holds. -/
def slotAny (c : Dev nD) (t : Fin 8) : sProp 𝕄 :=
  iprop(∃ f : Buf (Elt F) ((c : Thread nD τ).loc cc0_scratch3), ((c : Thread nD τ).loc cc0_scratch3) ↦[(blockR t).set]{fullShare} f)
/-- What `p`'s signal hands `c`. -/
def barPay (c : Dev nD) (p : Fin 8) : sProp 𝕄 := if p = c then iprop(emp) else slotAny p c
/-- Block `p` of device `c`'s arrival buffer, arrived. -/
def recvPay (c : Dev nD) (p : Fin 8) : sProp 𝕄 := ((c : Thread nD τ).loc cc0_scratch3) ↦[(blockR p).set]{fullShare} arrived m c
/-- Block `t` of device `c`'s staged blocks, complete. -/
def sendPay (c : Dev nD) (t : Fin 8) : sProp 𝕄 := ((c : Thread nD τ).loc cc0_scratch2) ↦[(blockR t).set]{fullShare} blocks m c

/-- What lands on cell `k` of device `c`, by duty. -/
def payOf (c : Dev nD) : Option CK → Fin 8 → sProp 𝕄
  | none, _ => iprop(emp)
  | some (.inl _), p => barPay c p
  | some (.inr (.inl t)), _ => sendPay m c t
  | some (.inr (.inr p)), _ => recvPay m c p
/-- The duties of cell `k` of device `c`: all eight devices at the barrier, one on a used send or receive cell. -/
def dutiesOf (c : Dev nD) : Option CK → Finset (Fin 8)
  | none => ∅
  | some (.inl _) => Finset.univ
  | some (.inr (.inl t)) => if t = 0 then ∅ else {0}
  | some (.inr (.inr p)) => if p = c then ∅ else {0}
/-- How much a duty brings. -/
def amountOf : Option CK → ℕ
  | some (.inl _) => 1
  | _ => N
theorem amountOf_pos (k : Option CK) : 0 < amountOf k := by
  unfold amountOf
  split
  · exact Nat.one_pos
  · exact N_pos

instance slotAny_storable (c : Dev nD) (t : Fin 8) : BI.Storable (upEmb : UEmb _ 𝕄) (slotAny (F := F) c t) := by unfold slotAny; infer_instance
instance barPay_storable (c : Dev nD) (p : Fin 8) : BI.Storable (upEmb : UEmb _ 𝕄) (barPay (F := F) c p) := by
  unfold barPay; split <;> infer_instance
instance recvPay_storable (c : Dev nD) (p : Fin 8) : BI.Storable (upEmb : UEmb _ 𝕄) (recvPay m c p) := by unfold recvPay; infer_instance
instance sendPay_storable (c : Dev nD) (t : Fin 8) : BI.Storable (upEmb : UEmb _ 𝕄) (sendPay m c t) := by unfold sendPay; infer_instance

/-- The schedule: one round, round 0. -/
def sched : Rounds.Schedule (GSem nD τ sig) (Fin 8) 𝕄 where
  duties g r := if r = 0 ∧ g.1.2 = .tc then dutiesOf g.1.1 (dec g.2) else ∅
  unitless _ := False
  amount g _ _ := amountOf (dec g.2)
  payload g _ d := payOf m g.1.1 (dec g.2) d
  amount_pos g _ _ _ := amountOf_pos _

instance sched_payload_storable (g : GSem nD τ sig) (r : ℕ) (d : Fin 8) :
    BI.Storable (upEmb : UEmb _ 𝕄) ((sched m).payload g r d) := by
  show BI.Storable upEmb (payOf m g.1.1 (dec g.2) d)
  unfold payOf
  split <;> infer_instance

theorem duties_bar (c : Dev nD) : (sched m).duties (barCell c) 0 = Finset.univ := by
  dsimp only [sched]; rw [if_pos ⟨rfl, rfl⟩, dec_bar]; rfl
theorem duties_send (c : Dev nD) (t : Fin 8) (ht : t ≠ 0) : (sched m).duties (sendCell c t) 0 = {0} := by
  dsimp only [sched]; rw [if_pos ⟨rfl, rfl⟩, dec_send]; exact if_neg ht
theorem duties_recv (c : Dev nD) (p : Fin 8) (hp : p ≠ c) : (sched m).duties (recvCell c p) 0 = {0} := by
  dsimp only [sched]; rw [if_pos ⟨rfl, rfl⟩, dec_recv]; exact if_neg hp
theorem duties_send_zero (c : Dev nD) (r : ℕ) : (sched m).duties (sendCell c 0) r = ∅ := by
  dsimp only [sched]; rw [dec_send]; unfold dutiesOf; split <;> simp
theorem duties_recv_self (c : Dev nD) (r : ℕ) : (sched m).duties (recvCell c c) r = ∅ := by
  dsimp only [sched]; rw [dec_recv]; unfold dutiesOf; split <;> simp
theorem duties_later (g : GSem nD τ sig) : ∀ r, 1 ≤ r → (sched m).duties g r = ∅ :=
  fun r hr => by dsimp only [sched]; rw [if_neg fun h => by omega]

theorem amount_bar (c : Dev nD) (d : Fin 8) : (sched m).amount (barCell c) 0 d = 1 := by
  show amountOf (dec (.reg barS)) = 1; rw [dec_bar]; rfl
theorem amount_send (c : Dev nD) (t d : Fin 8) : (sched m).amount (sendCell c t) 0 d = N := by
  show amountOf (dec (.dma _)) = N; rw [dec_send]; rfl
theorem amount_recv (c : Dev nD) (p d : Fin 8) : (sched m).amount (recvCell c p) 0 d = N := by
  show amountOf (dec (.dma _)) = N; rw [dec_recv]; rfl

theorem expect_bar (c : Dev nD) : (sched m).expect (barCell c) 0 = 8 := by
  unfold Schedule.expect Schedule.amountOf
  rw [duties_bar, Finset.sum_congr rfl fun d _ => amount_bar m c d, Finset.sum_const, Finset.card_univ, Fintype.card_fin, smul_eq_mul]
theorem expect_send (c : Dev nD) (t : Fin 8) (ht : t ≠ 0) : (sched m).expect (sendCell c t) 0 = N := by
  unfold Schedule.expect Schedule.amountOf; rw [duties_send m c t ht, Finset.sum_singleton, amount_send]
theorem expect_recv (c : Dev nD) (p : Fin 8) (hp : p ≠ c) : (sched m).expect (recvCell c p) 0 = N := by
  unfold Schedule.expect Schedule.amountOf; rw [duties_recv m c p hp, Finset.sum_singleton, amount_recv]

theorem payload_bar (c : Dev nD) (p : Fin 8) : (sched m).payload (barCell c) 0 p = barPay c p := by
  show payOf m c (dec (.reg barS)) p = _; rw [dec_bar]; rfl
theorem payload_send (c : Dev nD) (t d : Fin 8) : (sched m).payload (sendCell c t) 0 d = sendPay m c t := by
  show payOf m c (dec (.dma _)) d = _; rw [dec_send]; rfl
theorem payload_recv (c : Dev nD) (p d : Fin 8) : (sched m).payload (recvCell c p) 0 d = recvPay m c p := by
  show payOf m c (dec (.dma _)) d = _; rw [dec_recv]; rfl

/-- What the whole round hands over: at the barrier, every device's signal; -/
theorem rest_bar (c : Dev nD) : bigSep ((sched m).duties (barCell c) 0 \ ∅) (fun d => (sched m).payload (barCell c) 0 d)
    = bigSep Finset.univ fun p : Fin 8 => (barPay c p : sProp 𝕄) := by
  rw [Finset.sdiff_empty, duties_bar]; exact bigSep_congr fun p _ => payload_bar m c p
/-- on a send cell the staged block; -/
theorem rest_send (c : Dev nD) (t : Fin 8) (ht : t ≠ 0) :
    bigSep ((sched m).duties (sendCell c t) 0 \ ∅) (fun d => (sched m).payload (sendCell c t) 0 d) = sendPay m c t := by
  rw [Finset.sdiff_empty, duties_send m c t ht, bigSep_singleton, payload_send]
/-- on a receive cell the arrived block. -/
theorem rest_recv (c : Dev nD) (p : Fin 8) (hp : p ≠ c) :
    bigSep ((sched m).duties (recvCell c p) 0 \ ∅) (fun d => (sched m).payload (recvCell c p) 0 d) = recvPay m c p := by
  rw [Finset.sdiff_empty, duties_recv m c p hp, bigSep_singleton, payload_recv]

end Sched

/-! ## What a device owes, and the levels -/

/-- The last `n` sends. -/
def owedSends (c : Dev nD) : ℕ → CellTallies nD τ sig Unit
  | 0 => 0
  | n + 1 => owedSends c n + tallyAt (recvCell (pls c ⟨7 - n, by omega⟩) c) () N
/-- All seven sends and the signals to the last `n` devices. -/
def owedAll (c : Dev nD) : ℕ → CellTallies nD τ sig Unit
  | 0 => owedSends c 7
  | n + 1 => owedAll c n + tallyAt (barCell (⟨7 - n, by show 7 - n < 8; omega⟩ : Dev nD)) () 1
/-- What device `c` owes at launch. -/
def O₀ (c : Dev nD) : CellTallies nD τ sig Unit := owedAll c 8

theorem owedSends_pos {c : Dev nD} {n : ℕ} {g : GSem nD τ sig} {u : Unit} (h : 0 < owedSends c n g u) : ∃ t, g = recvCell (pls c t) c := by
  induction n with
  | zero => exact absurd h (Nat.lt_irrefl 0)
  | succ n ih =>
    rw [owedSends, Pi.add_apply, Finsupp.add_apply, tallyAt_apply] at h
    by_cases hg : g = recvCell (pls c ⟨7 - n, by omega⟩) c ∧ u = ()
    · exact ⟨_, hg.1⟩
    · rw [if_neg hg] at h
      exact ih h

theorem owedAll_pos {c : Dev nD} {n : ℕ} {g : GSem nD τ sig} {u : Unit} (h : 0 < owedAll c n g u) :
    (∃ t, g = recvCell (pls c t) c) ∨ ∃ d, g = barCell d := by
  induction n with
  | zero => exact Or.inl (owedSends_pos h)
  | succ n ih =>
    rw [owedAll, Pi.add_apply, Finsupp.add_apply, tallyAt_apply] at h
    by_cases hg : g = barCell (⟨7 - n, by show 7 - n < 8; omega⟩ : Dev nD) ∧ u = ()
    · exact Or.inr ⟨_, hg.1⟩
    · rw [if_neg hg] at h
      exact ih h

/-- The one index, on every core's cells. -/
def L (g : GSem nD τ sig) : Finset Unit := if g.1.2 = .tc then {()} else ∅
/-- A cell's level: barriers 1, receive cells 2, the others 0. -/
def lvOf : Option CK → ℕ
  | some (.inl _) => 1
  | some (.inr (.inr _)) => 2
  | _ => 0
/-- The levels. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [dec_bar]; rfl
theorem lv_recv (c : Dev nD) (p : Fin 8) (u : Unit) : lv (recvCell c p) u = 2 := by unfold lv; rw [dec_recv]; rfl

/-- A cell of level 0 may be waited for by a device that owes nothing but receive cells and barriers. -/
theorem mayWait_low (c : Dev nD) (sm : SemLoc sig) (hs : lvOf (dec sm) = 0) (O : CellTallies nD τ sig Unit)
    (hO : ∀ g u, 0 < O g u → (∃ t, g = recvCell (pls c t) c) ∨ ∃ d, g = barCell d) :
    (levAts L lv : sProp 𝕄) ⊢ MayWait (c : Thread nD τ) sm () O := by
  refine MayOwe.of_cut (L := L) (lev := lv) 0 (fun p hp => by rw [Finset.mem_singleton.mp hp, L_tc]; exact Finset.mem_singleton_self _)
    (fun g u hg => by
      rcases hO g u hg with ⟨t, rfl⟩ | ⟨d, rfl⟩ <;> rw [L_tc] <;> exact Finset.mem_singleton_self _)
    (fun p hp => by rw [Finset.mem_singleton.mp hp]; exact le_of_eq hs)
    (fun g u hg => by
      rcases hO g u hg with ⟨t, rfl⟩ | ⟨d, rfl⟩
      · rw [lv_recv]; decide
      · rw [lv_bar]; decide)

/-- A weight copy may be waited for while sends are owed; -/
theorem mayWait_w (c : Dev nD) (k : ℕ) (hk : k < 2) (n : ℕ) :
    (levAts L lv : sProp 𝕄) ⊢ MayWait (c : Thread nD τ) (.dma (wCell cc0_scratch4 k hk)) () (owedSends c n) :=
  mayWait_low c _ (by rw [dec_w]; rfl) _ fun g u h => Or.inl (owedSends_pos h)
/-- a staging copy at the start and the end; -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · exact mayWait_low c _ (by rw [hq]; rfl) _ fun g u h => owedAll_pos h
  · rw [MayWait_zero]; iintro -; iempintro
/-- the barrier while sends are owed. -/
theorem mayWait_bar (c : Dev nD) (n : ℕ) : (levAts L lv : sProp 𝕄) ⊢ MayWait (c : Thread nD τ) (.reg barS) () (owedSends c n) :=
  MayOwe.of_cut (L := L) (lev := lv) 1 (fun p hp => by rw [Finset.mem_singleton.mp hp, L_tc]; exact Finset.mem_singleton_self _)
    (fun g u hg => by obtain ⟨t, rfl⟩ := owedSends_pos hg; rw [L_tc]; exact Finset.mem_singleton_self _)
    (fun p hp => by rw [Finset.mem_singleton.mp hp]; exact le_of_eq (lv_bar c ()))
    (fun g u hg => by obtain ⟨t, rfl⟩ := owedSends_pos hg; rw [lv_recv]; decide)

/-! ## What a device starts from -/

section Start
variable (m : (ℓ : Loc nD τ sig) → Buf (Elt F) ℓ)

/-- Everybody's knowledge: every cell's invariant, and that its round 0 is open. -/
def records (K : Dev nD × CK → ℕ) : sProp 𝕄 :=
  iprop((bigSep Finset.univ fun ck : Dev nD × CK => cellInv (ER F) (sched m) (K ck) (kcell ck))
    ∗ bigSep Finset.univ fun ck : Dev nD × CK => reached (ER F) (kcell ck) 0)
instance records_persistent (K : Dev nD × CK → ℕ) : BI.Persistent (records m K) := by unfold records; infer_instance

theorem records_inv (K : Dev nD × CK → ℕ) (ck : Dev nD × CK) : records m K ⊢ cellInv (ER F) (sched m) (K ck) (kcell ck) := by
  unfold records
  exact sep_elim_left.trans (bigSep_elim (Finset.mem_univ ck))
theorem records_reached (K : Dev nD × CK → ℕ) (ck : Dev nD × CK) : records m K ⊢ reached (ER F) (kcell ck) 0 := by
  unfold records
  exact sep_elim_right.trans (bigSep_elim (Finset.mem_univ ck))

/-- The invariants and marks at the cells' names. -/
theorem records_bar (K : Dev nD × CK → ℕ) (c : Dev nD) :
    records m K ⊢ iprop(cellInv (ER F) (sched m) (K (c, .inl ())) (barCell c) ∗ reached (ER F) (barCell c) 0) := by
  iintro #H
  isplitr
  · iapply (records_inv m K (c, .inl ())); iexact H
  · iapply (records_reached m K (c, .inl ())); iexact H
theorem records_send (K : Dev nD × CK → ℕ) (c : Dev nD) (t : Fin 8) :
    records m K ⊢ iprop(cellInv (ER F) (sched m) (K (c, .inr (.inl t))) (sendCell c t) ∗ reached (ER F) (sendCell c t) 0) := by
  iintro #H
  isplitr
  · iapply (records_inv m K (c, .inr (.inl t))); iexact H
  · iapply (records_reached m K (c, .inr (.inl t))); iexact H
theorem records_recv (K : Dev nD × CK → ℕ) (c : Dev nD) (p : Fin 8) :
    records m K ⊢ iprop(cellInv (ER F) (sched m) (K (c, .inr (.inr p))) (recvCell c p) ∗ reached (ER F) (recvCell c p) 0) := by
  iintro #H
  isplitr
  · iapply (records_inv m K (c, .inr (.inr p))); iexact H
  · iapply (records_reached m K (c, .inr (.inr p))); iexact H

/-- What device `c` waits for block `p`'s arrival with: its position on the receive cell and, for another device, the
    credit. -/
def recvRight (c : Dev nD) (p : Fin 8) : sProp 𝕄 :=
  iprop(atPos (ER F) (recvCell c p) 0 ∅ 0 ∗ cred (tallyAt (recvCell c p) () (if p = c then 0 else N)))
/-- What device `c` sends block `t` with: the two duties of the send. -/
def sendToks (c : Dev nD) (t : Fin 8) : sProp 𝕄 :=
  iprop(dutyTok (ER F) (sendCell c t) 0 0 ∗ dutyTok (ER F) (recvCell (pls c t) c) 0 0)

/-- Device `c`'s own part of the protocol at launch: its positions, its credits, the duties it pays. -/
def rights (c : Dev nD) : sProp 𝕄 :=
  iprop((atPos (ER F) (barCell c) 0 ∅ 0 ∗ cred (tallyAt (barCell c) () 8))
    ∗ (bigSep Finset.univ fun t : Fin 8 => atPos (ER F) (sendCell c t) 0 ∅ 0)
    ∗ (bigSep Finset.univ fun p : Fin 8 => recvRight c p)
    ∗ (bigSep Finset.univ fun d : Fin 8 => dutyTok (ER F) (barCell d) 0 c)
    ∗ (bigSep Finset.univ fun t : Fin 8 => sendToks c t))

end Start

end Cert.KernelIdeal.Proof
-- ==== Proof.KernelIdeal.Stages.lean ====
/-
# The stages, one at a time

For each stage of the body: what it takes and what it gives, on a symbolic device `c`.
-/
module

public import proofs.«01_k».proof.Proof.KernelIdeal.Protocol

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- No loops. -/
abbrev 𝒱₀ : Variants := Variants.none
/-- Device `c` may run `P`, ending in `Q`. -/
abbrev wpc (c : Dev nD) {α : Type} (P : PR F α) (Q : α → sProp 𝕄) : sProp 𝕄 :=
  wp frame (wpE (defs₀ (F := F)) 𝒱₀ (c : Thread nD τ) none) Set.univ P Q

/-! ## The buffers as the stages find them -/

section Res
variable (m : (ℓ : Loc nD τ sig) → Buf (Elt F) ℓ)

/-- Device `c` owes `O`. -/
def ow (c : Dev nD) (O : CellTallies nD τ sig Unit) : sProp 𝕄 := iprop(∃ W, owes (c : Thread nD τ) O W)
/-- The rows are cast. -/
def xbPts (c : Dev nD) : sProp 𝕄 := ((c : Thread nD τ).loc cc0_scratch0) ↦{fullShare} xb m c
/-- The result agrees with its final contents on `S`. -/
def outPts (c : Dev nD) (S : S4096x1024.Idx → Prop) : sProp 𝕄 :=
  iprop(∃ f : Buf (Elt F) ((c : Thread nD τ).loc cc0_stg1_0), ⌜∀ i, S i → f i = outAt m c i⌝ ∗ (((c : Thread nD τ).loc cc0_stg1_0) ↦{fullShare} f))
/-- Block `t` of the staged blocks agrees with its final contents on `S`. -/
def yPts (c : Dev nD) (t : Fin 8) (S : S8x512x1024.Idx → Prop) : sProp 𝕄 :=
  iprop(∃ f : Buf (Elt F) ((c : Thread nD τ).loc cc0_scratch2), ⌜∀ i, S i → f i = blocks m c i⌝
    ∗ (((c : Thread nD τ).loc cc0_scratch2) ↦[(blockR t).set]{fullShare} f))

/-- Each slot's share of the weights. -/
def wq (k : ℕ) : PosShare TreeShare := if k = 0 then fullShare.left else fullShare.right
/-- Slot `k` between a read and the next copy. -/
def wIdle (c : Dev nD) (k : ℕ) (hk : k < 2) : sProp 𝕄 :=
  iprop((∃ f : Buf (Elt F) ((c : Thread nD τ).loc cc0_scratch1), ((c : Thread nD τ).loc cc0_scratch1) ↦[(slotR k hk).set]{fullShare} f)
    ∗ (((c : Thread nD τ).loc main_arg1) ↦{wq k} wIn m c)
    ∗ semVal ((c : Thread nD τ), .dma (wCell cc0_scratch4 k hk)) 0)
/-- The elements of the weights that tile `(t, s)` takes. -/
abbrev colSet (c : Dev nD) (t : Fin 8) (s : Fin 4) : Finset S4096x8192.Idx := (wCols (Memref.whole main_arg1) c t s).view.set
/-- What the copy of tile `(t, s)` into slot `k` hands back. -/
def wDone (c : Dev nD) (k : ℕ) (hk : k < 2) (t : Fin 8) (s : Fin 4) : sProp 𝕄 :=
  iprop((∃ f : Buf (Elt F) ((c : Thread nD τ).loc cc0_scratch1), ⌜(wSlot (Memref.whole cc0_scratch1) k hk).view.read (Elt F) f = wTile m c t s⌝
      ∗ (((c : Thread nD τ).loc cc0_scratch1) ↦[(slotR k hk).set]{fullShare} f))
    ∗ (((c : Thread nD τ).loc main_arg1) ↦[colSet c t s]{wq k} wIn m c))
/-- Slot `k` while tile `(t, s)` is being copied into it. -/
def wBusy (c : Dev nD) (k : ℕ) (hk : k < 2) (t : Fin 8) (s : Fin 4) : sProp 𝕄 :=
  iprop(Flight (EC F) (c : Thread nD τ) (.dma (wCell cc0_scratch4 k hk)) () (wSlot (Memref.whole cc0_scratch1) k hk).view.dmaCredit (wDone m c k hk t s)
    ∗ (((c : Thread nD τ).loc main_arg1) ↦[Finset.univ \ colSet c t s]{wq k} wIn m c))

/-! ## The weights' copies -/

/-- What a landed copy hands back, named. -/
theorem wDone_of (c : Dev nD) (k : ℕ) (hk : k < 2) (t : Fin 8) (s : Fin 4) (f : Buf (Elt F) ((c : Thread nD τ).loc cc0_scratch1)) :
    iprop(((wSlot (Memref.whole cc0_scratch1) k hk).view.loc (c : Thread nD τ) ↦[(slotR k hk).set]{fullShare}
        (wSlot (Memref.whole cc0_scratch1) k hk).view.write (Elt F) f
          (ReadAs.same.apply ((wCols (Memref.whole main_arg1) c t s).view.read (Elt F) (wIn m c))) Finset.univ)
      ∗ ((wCols (Memref.whole main_arg1) c t s).view.loc (c : Thread nD τ) ↦[(wCols (Memref.whole main_arg1) c t s).view.set]{wq k} wIn m c))
    ⊢ wDone m c k hk t s := by
  unfold wDone
  iintro ⟨Hb, Hw⟩
  isplitl [Hb]
  · iexists ((wSlot (Memref.whole cc0_scratch1) k hk).view.write (Elt F) f
      (ReadAs.same.apply ((wCols (Memref.whole main_arg1) c t s).view.read (Elt F) (wIn m c))) Finset.univ)
    isplitr
    · ipureintro; exact View.read_write_univ _ _
    iexact Hb
  · iexact Hw

/-- The cast rows, loaded whole. -/
theorem load_xb (f : Vec F S512x4096 .bf16) :
    (Memref.whole cc0_scratch0 : Memref sig .tc .vmem S512x4096 .bf16).view.readAt (Elt F)
      (Rect.unit (s := S512x4096) ![0, 0] S512x4096.size inb_S512x4096_S512x4096_0_0).toLoadRect f = f :=
  Memref.readAt_unit_zero (Elt F) cc0_scratch0 (funext fun a => by fin_cases a <;> rfl) _ f

/-- Starting a copy. -/
theorem wStart_wp (c : Dev nD) (t : Fin 8) (s : Fin 4) (k : ℕ) (hk : k < 2) (Q : PUnit → sProp 𝕄) :
    iprop(wIdle m c k hk ∗ (wBusy m c k hk t s -∗ Q ⟨⟩))
      ⊢ wpc c (wStart (Memref.whole main_arg1) (Memref.whole cc0_scratch1) cc0_scratch4 c t s k hk) Q := by
  unfold wIdle wBusy wStart
  simp only [Prog.lift]
  iintro ⟨⟨⟨%f, Hb⟩, Hw, Hs⟩, Hk⟩
  ihave Hw := (pointsTo_split_subset (Finset.subset_univ (colSet c t s))).1 $$ Hw
  icases Hw with ⟨Hw, Hr⟩
  iapply (wp_dmaLocal (EC F) 𝒱₀ (c : Thread nD τ) none () _ rfl (View.dmaCredit_pos _ (by decide)) (le_of_eq (set_wSlot k hk))) $$ [Hb Hw Hs]
  · isplitl [Hw]; · iexact Hw
    isplitl [Hb]; · iexact Hb
    iexact Hs
  iintro HF
  rw [wp_ret]; imodintro
  iapply Hk
  isplitl [HF]
  · iapply (Flight_mono (EC F) (c : Thread nD τ) (wDone_of m c k hk t s f)) $$ HF
  · iexact Hr

/-- Waiting for a copy and reading its tile and the rows. -/
theorem wTake_wp (c : Dev nD) (t : Fin 8) (s : Fin 4) (k : ℕ) (hk : k < 2) (n : ℕ) (Q : Vec F S1x4096x256 .f32 × Vec F S512x4096 .bf16 → sProp 𝕄) :
    iprop(wBusy m c k hk t s ∗ xbPts m c ∗ ow c (owedSends c n) ∗ levAts L lv
        ∗ ((wIdle m c k hk ∗ xbPts m c ∗ ow c (owedSends c n)) -∗ Q (wVec m c t s, xb m c)))
      ⊢ wpc c (wTake (Memref.whole main_arg1) (Memref.whole cc0_scratch0) (Memref.whole cc0_scratch1) cc0_scratch4 c t s k hk) Q := by
  unfold wBusy wTake ow xbPts
  simp only [Prog.lift, Prog.bind_op, Prog.bind_ret, Prog.pure_eq_ret]
  iintro ⟨⟨HF, Hr⟩, Hx, ⟨%W, HO⟩, #Hlev, Hk⟩
  iapply (wp_waitLocalO (EC F) 𝒱₀ (c : Thread nD τ) none () rfl) $$ [HF HO]
  · isplitl [HF]; · iexact HF
    isplitl [HO]; · iexact HO
    iapply (mayWait_w c k hk n); iexact Hlev
  unfold wDone
  iintro ⟨⟨⟨%f, %hf, Hb⟩, Hw⟩, Hs, HO⟩
  iapply (wp_load 𝒱₀ (c : Thread nD τ) none Set.univ (m := Memref.whole cc0_scratch1) (S := (slotR k hk).set)
    (le_of_eq (Finset.map_refl (s := (slotR k hk).set)))) $$ Hb
  iintro Hb
  rw [load_slot m c t s k hk f hf]
  iapply (wp_load 𝒱₀ (c : Thread nD τ) none Set.univ (m := Memref.whole cc0_scratch0) (Finset.subset_univ _)) $$ Hx
  iintro Hx
  rw [load_xb]
  rw [wp_ret]; imodintro
  iapply Hk
  isplitl [Hb Hw Hr Hs]
  · unfold wIdle
    isplitl [Hb]; · iexists f; iexact Hb
    isplitl [Hw Hr]
    · iapply (pointsTo_split_subset (Finset.subset_univ (colSet c t s))).2
      isplitl [Hw]; · iexact Hw
      iexact Hr
    iexact Hs
  isplitl [Hx]; · iexact Hx
  iexists _; iexact HO

/-! ## The tiles -/

/-- The elements of tile `s` of device `c`'s own rows. -/
def ownP (c : Dev nD) (s : Fin 4) (i : S4096x1024.Idx) : Prop := (i 0).val / 512 = c.val ∧ (i 1).val / 256 = s.val
/-- The elements in device `p`'s rows. -/
def rowP (p : Fin 8) (i : S4096x1024.Idx) : Prop := (i 0).val / 512 = p.val
/-- The elements of tile `s` of a block. -/
def tileP (s : Fin 4) (i : S8x512x1024.Idx) : Prop := (i 2).val / 256 = s.val

theorem outPts_open (c : Dev nD) (S : S4096x1024.Idx → Prop) : outPts m c S ⊢ iprop(∃ f : Buf (Elt F) ((c : Thread nD τ).loc cc0_stg1_0),
    ⌜∀ i, S i → f i = outAt m c i⌝ ∗ (((c : Thread nD τ).loc cc0_stg1_0) ↦{fullShare} f)) := BI.Entails.refl _
theorem yPts_open (c : Dev nD) (t : Fin 8) (S : S8x512x1024.Idx → Prop) : yPts m c t S ⊢ iprop(∃ f : Buf (Elt F) ((c : Thread nD τ).loc cc0_scratch2),
    ⌜∀ i, S i → f i = blocks m c i⌝ ∗ (((c : Thread nD τ).loc cc0_scratch2) ↦[(blockR t).set]{fullShare} f)) := BI.Entails.refl _

/-- A store of part of the final result. -/
theorem outPts_write (c : Dev nD) (S T : S4096x1024.Idx → Prop) (r : Rect S4096x1024) (hT : ∀ i, T i → i ∈ r.set)
    (f : Buf (Elt F) ((c : Thread nD τ).loc cc0_stg1_0)) (hf : ∀ i, S i → f i = outAt m c i) (w : r.shape.Idx → Elt F .f32)
    (hw : ((Memref.whole cc0_stg1_0).access r : View sig .tc _ _ _).read (Elt F) (outAt m c) = w) :
    (((c : Thread nD τ).loc cc0_stg1_0) ↦{fullShare} ((Memref.whole cc0_stg1_0).access r : View sig .tc _ _ _).write (Elt F) f w Finset.univ : sProp 𝕄)
      ⊢ outPts m c fun i => S i ∨ T i := by
  unfold outPts
  iintro H
  iexists (((Memref.whole cc0_stg1_0).access r : View sig .tc _ _ _).write (Elt F) f w Finset.univ)
  isplitr
  · ipureintro
    intro i hi
    by_cases hr : i ∈ r.set
    · exact write_agrees ((Memref.whole cc0_stg1_0).access r : View sig .tc _ _ _) f (outAt m c) w hw i (by rw [View.set_slice_whole]; exact hr)
    · rw [View.write_of_not_mem _ _ _ (by rw [View.setOn_univ, View.set_slice_whole]; exact hr)]
      exact hf i (hi.resolve_right fun h => hr (hT i h))
  iexact H

/-- A store of part of a final staged block. -/
theorem yPts_write (c : Dev nD) (t : Fin 8) (S T : S8x512x1024.Idx → Prop) (r : Rect S8x512x1024) (hT : ∀ i ∈ (blockR t).set, T i → i ∈ r.set)
    (f : Buf (Elt F) ((c : Thread nD τ).loc cc0_scratch2)) (hf : ∀ i, S i → f i = blocks m c i) (w : r.shape.Idx → Elt F .bf16)
    (hw : ((Memref.whole cc0_scratch2).access r : View sig .tc _ _ _).read (Elt F) (blocks m c) = w) :
    (((c : Thread nD τ).loc cc0_scratch2) ↦[(blockR t).set]{fullShare} ((Memref.whole cc0_scratch2).access r : View sig .tc _ _ _).write (Elt F) f w Finset.univ : sProp 𝕄)
      ⊢ yPts m c t fun i => i ∈ (blockR t).set ∧ (S i ∨ T i) := by
  unfold yPts
  iintro H
  iexists (((Memref.whole cc0_scratch2).access r : View sig .tc _ _ _).write (Elt F) f w Finset.univ)
  isplitr
  · ipureintro
    rintro i ⟨hb, hi⟩
    by_cases hr : i ∈ r.set
    · exact write_agrees ((Memref.whole cc0_scratch2).access r : View sig .tc _ _ _) f (blocks m c) w hw i (by rw [View.set_slice_whole]; exact hr)
    · rw [View.write_of_not_mem _ _ _ (by rw [View.setOn_univ, View.set_slice_whole]; exact hr)]
      exact hf i (hi.resolve_right fun h => hr (hT i hb h))
  iexact H

/-- A tile of the device's own block. -/
theorem tileOwn_wp (c : Dev nD) (s : Fin 4) (k : ℕ) (hk : k < 2) (off : Fin 2 → ℕ) (hoff : ∀ a, off a + S512x256.size a ≤ S4096x1024.size a)
    (h : off = ![512 * c.val, 256 * s.val]) (n : ℕ) (S : S4096x1024.Idx → Prop) (Q : PUnit → sProp 𝕄) :
    iprop(wBusy m c k hk 0 s ∗ xbPts m c ∗ ow c (owedSends c n) ∗ levAts L lv ∗ outPts m c S
        ∗ ((wIdle m c k hk ∗ xbPts m c ∗ ow c (owedSends c n) ∗ outPts m c fun i => S i ∨ ownP c s i) -∗ Q ⟨⟩))
      ⊢ wpc c (tileOwn (Memref.whole main_arg1) (Memref.whole cc0_stg1_0) (Memref.whole cc0_scratch0) (Memref.whole cc0_scratch1) cc0_scratch4 c s k hk off hoff) Q := by
  unfold tileOwn
  simp only [wpc, wp_bind]
  iintro ⟨Hb, Hx, Ho, #Hlev, Hout, Hk⟩
  iapply (wTake_wp m c 0 s k hk n)
  isplitl [Hb]; · iexact Hb
  isplitl [Hx]; · iexact Hx
  isplitl [Ho]; · iexact Ho
  isplitr; · iexact Hlev
  iintro ⟨Hi, Hx, Ho⟩
  simp only [Prog.lift]
  ihave Hout := (outPts_open m c S) $$ Hout
  icases Hout with ⟨%f, %hf, Hout⟩
  iapply (wp_load 𝒱₀ (c : Thread nD τ) none Set.univ (m := Memref.whole cc0_stg1_0) (Finset.subset_univ _)) $$ Hout
  iintro Hout
  rw [wp_ret]; imodintro
  iapply (wp_store 𝒱₀ (c : Thread nD τ) none Set.univ (m := Memref.whole cc0_stg1_0) (r := Rect.unit (s := S4096x1024) off S512x256.size hoff) (Mk := Finset.univ) (Finset.subset_univ _)) $$ Hout
  iintro Hout
  rw [wp_ret]; imodintro
  iapply Hk
  isplitl [Hi]; · iexact Hi
  isplitl [Hx]; · iexact Hx
  isplitl [Ho]; · iexact Ho
  iapply (outPts_write m c S (ownP c s) (Rect.unit (s := S4096x1024) off S512x256.size hoff) (fun i hi => (mem_own c s off h hoff i).mpr hi) f hf _
    (read_own m c s off h hoff))
  iexact Hout

/-- A tile of a block for another device. -/
theorem tileOut_wp (c : Dev nD) (t : Fin 8) (s : Fin 4) (k : ℕ) (hk : k < 2) (n : ℕ) (S : S8x512x1024.Idx → Prop) (Q : PUnit → sProp 𝕄) :
    iprop(wBusy m c k hk t s ∗ xbPts m c ∗ ow c (owedSends c n) ∗ levAts L lv ∗ yPts m c t S
        ∗ ((wIdle m c k hk ∗ xbPts m c ∗ ow c (owedSends c n) ∗ yPts m c t fun i => i ∈ (blockR t).set ∧ (S i ∨ tileP s i)) -∗ Q ⟨⟩))
      ⊢ wpc c (tileOut (Memref.whole main_arg1) (Memref.whole cc0_scratch0) (Memref.whole cc0_scratch1) (Memref.whole cc0_scratch2) cc0_scratch4
          (Memref.isWhole_whole _) c t s k hk) Q := by
  unfold tileOut
  simp only [wpc, wp_bind]
  iintro ⟨Hb, Hx, Ho, #Hlev, Hy, Hk⟩
  iapply (wTake_wp m c t s k hk n)
  isplitl [Hb]; · iexact Hb
  isplitl [Hx]; · iexact Hx
  isplitl [Ho]; · iexact Ho
  isplitr; · iexact Hlev
  iintro ⟨Hi, Hx, Ho⟩
  simp only [Prog.lift]
  ihave Hy := (yPts_open m c t S) $$ Hy
  icases Hy with ⟨%f, %hf, Hy⟩
  have hsub : (tileR t s).set ⊆ (blockR t).set := fun i hi => (mem_block t i).mpr ((mem_tile t s i).mp hi).1
  iapply (wp_load 𝒱₀ (c : Thread nD τ) none Set.univ (m := Memref.whole cc0_scratch2) (S := (blockR t).set)
    ((le_of_eq (Finset.map_refl (s := (tileR t s).set))).trans hsub)) $$ Hy
  iintro Hy
  rw [wp_ret]; imodintro
  iapply (wp_store 𝒱₀ (c : Thread nD τ) none Set.univ (m := Memref.whole cc0_scratch2) (r := tileR t s) (S := (blockR t).set) (Mk := Finset.univ)
    (by rw [View.setOn_univ]; exact (le_of_eq (View.set_slice_whole cc0_scratch2 (tileR t s))).trans hsub)) $$ Hy
  iintro Hy
  rw [wp_ret]; imodintro
  iapply Hk
  isplitl [Hi]; · iexact Hi
  isplitl [Hx]; · iexact Hx
  isplitl [Ho]; · iexact Ho
  iapply (yPts_write m c t S (tileP s) (tileR t s) (fun i hb hi => (mem_tile t s i).mpr ⟨(mem_block t i).mp hb, hi⟩) f hf _ (read_tile m c t s))
  iexact Hy

/-- A block with its four tiles written is complete. -/
theorem yPts_done (c : Dev nD) (t : Fin 8) (S : S8x512x1024.Idx → Prop) (hS : ∀ i ∈ (blockR t).set, S i) : yPts m c t S ⊢ sendPay m c t := by
  unfold yPts sendPay
  iintro ⟨%f, %hf, H⟩
  iapply (Entails.of_eq (pointsTo_congr (fun i hi => hf i (hS i hi)))); iexact H

/-! ## The rows -/

/-- Casting the rows. -/
theorem castRows_wp (c : Dev nD) (Q : PUnit → sProp 𝕄) :
    iprop((((c : Thread nD τ).loc cc0_stg0_0) ↦{fullShare} xIn m c)
        ∗ (∃ f : Buf (Elt F) ((c : Thread nD τ).loc cc0_scratch0), ((c : Thread nD τ).loc cc0_scratch0) ↦{fullShare} f)
        ∗ (((((c : Thread nD τ).loc cc0_stg0_0) ↦{fullShare} xIn m c) ∗ xbPts m c) -∗ Q ⟨⟩))
      ⊢ wpc c (castRows (Memref.whole cc0_stg0_0) (Memref.whole cc0_scratch0) (Memref.isWhole_whole _)) Q := by
  unfold castRows
  simp only [Prog.lift, Prog.bind_op, Prog.bind_ret, Prog.pure_eq_ret]
  iintro ⟨Hx, ⟨%f, Hb⟩, Hk⟩
  have hz : (![0, 0] : Fin 2 → ℕ) = fun _ => 0 := funext fun a => by fin_cases a <;> rfl
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_scratch0) (Finset.subset_univ _)) $$ Hb
  iintro Hb
  iapply (wp_store 𝒱₀ (c : Thread nD τ) none Set.univ (m := Memref.whole cc0_scratch0) (r := Rect.unit (s := S512x4096) ![0, 0] S512x4096.size inb_S512x4096_S512x4096_0_0) (Mk := Finset.univ) (Finset.subset_univ _)) $$ Hb
  iintro Hb
  rw [wp_ret]; imodintro
  iapply Hk
  isplitl [Hx]; · iexact Hx
  unfold xbPts
  have e : ((Memref.whole cc0_scratch0).access (Rect.unit (s := S512x4096) ![0, 0] S512x4096.size inb_S512x4096_S512x4096_0_0) : View sig .tc _ _ _).write (Elt F) f
      (k0_pay1 ((Memref.whole cc0_stg0_0 : Memref sig .tc .vmem S512x4096 .f32).view.readAt (Elt F)
        (Rect.unit (s := S512x4096) ![0, 0] S512x4096.size inb_S512x4096_S512x4096_0_0).toLoadRect (xIn m c))) Finset.univ = xb m c :=
    (Memref.write_access_unit_zero_univ (Elt F) cc0_scratch0 hz _ f _).trans
      (congrArg k0_pay1 (Memref.readAt_unit_zero (Elt F) cc0_stg0_0 hz _ (xIn m c)))
  rw [← e]
  iexact Hb

/-! ## The sends and the arrivals -/

/-- What a send hands the receiver is the arrived block. -/
theorem landed (c : Dev nD) (t : Fin 8) (fd : Buf (Elt F) ((pls c t : Thread nD τ).loc cc0_scratch3)) :
    ((block8 (Memref.whole cc0_scratch3) c.val c.isLt).view.loc (pls c t : Thread nD τ) ↦[(block8 (Memref.whole cc0_scratch3) c.val c.isLt).view.set]{fullShare}
      (block8 (Memref.whole cc0_scratch3) c.val c.isLt).view.write (Elt F) fd
        ((block8 (Memref.whole cc0_scratch2) t.val t.isLt).view.read (Elt F) (blocks m c)) Finset.univ : sProp 𝕄)
      ⊢ recvPay m (pls c t) c := by
  unfold recvPay
  rw [← set_block8_3]
  exact Entails.of_eq (pointsTo_congr fun i hi => write_agrees (block8 (Memref.whole cc0_scratch3) c.val c.isLt).view fd (arrived m (pls c t)) _ (read_block m c t) i hi)

set_option maxHeartbeats 1000000 in
/-- A send, at any spelling of the destination's device, window and cell. -/
theorem send_at (K : Dev nD × CK → ℕ) (c : Dev nD) (t : Fin 8) (ht : t ≠ 0) (n : Dev nD) (hn : n = pls c t)
    (dm : Memref sig .tc .vmem S512x1024 .bf16) (hdm : dm = block8 (Memref.whole cc0_scratch3) c.val c.isLt)
    (sm : DmaSem sig) (hsm : sm = cell8 cc0_scratch6 c.val c.isLt)
    {hsc : (dm : Memref sig (Dev.tc n : Thread nD τ).2.kind .vmem S512x1024 .bf16).view.ref.isScScratch = false}
    {hsrc : (block8 (Memref.whole cc0_scratch2) t.val t.isLt).view.WordExact} {hdst : dm.view.WordExact}
    {hsem : DmaTarget.Typed .vmem (.dma sm) (.remote (Dev.tc n : Thread nD τ) dm (.dma (cell8 cc0_scratch5 t.val t.isLt)) hsc)}
    {α : Type} {Q : α → sProp 𝕄} {k : PUnit → PR F α} (O : CellTallies nD τ sig Unit) :
    iprop(records m K ∗ sendPay m c t ∗ sendToks c t ∗ slotAny (pls c t) c ∗ ow c (O + tallyAt (recvCell (pls c t) c) () N)
        ∗ ((cred (tallyAt (sendCell c t) () N) ∗ ow c O) -∗ wpc c (k ⟨⟩) Q))
      ⊢ wpc c (.op (.enqueueDma (block8 (Memref.whole cc0_scratch2) t.val t.isLt)
          (.remote (Dev.tc n : Thread nD τ) dm (.dma (cell8 cc0_scratch5 t.val t.isLt)) hsc) (.dma sm) hsrc hdst hsem) k) Q := by
  subst hn hdm hsm
  unfold sendPay sendToks slotAny ow
  iintro ⟨#HR, Hy, ⟨Ht, Ht'⟩, ⟨%fd, Hd⟩, ⟨%W, HO⟩, Hk⟩
  ihave #Hs := (records_send m K c t) $$ HR
  icases Hs with ⟨#HIs, #HRs⟩
  ihave #Hv := (records_recv m K (pls c t) c) $$ HR
  icases Hv with ⟨#HIv, #HRv⟩
  iapply (Rounds.wp_send_pointsTo 𝒱₀ (ER F) (sched m) (c : Thread nD τ) none
    (c' := (pls c t : Thread nD τ)) (dst := block8 (Memref.whole cc0_scratch3) c.val c.isLt) (sem := .dma (cell8 cc0_scratch6 c.val c.isLt))
    (κ₁ := K (c, .inr (.inl t))) (κ₂ := K (pls c t, .inr (.inr c))) (r₁ := 0) (r₂ := 0) (d₁ := 0) (d₂ := 0)
    (q := fullShare) (fs := blocks m c) (fd := fd)
    (by rw [duties_send m c t ht]; exact Finset.mem_singleton_self _)
    (by rw [duties_recv m (pls c t) c (fun h => ht ((pls_eq_self_iff c t).mp h.symm))]; exact Finset.mem_singleton_self _)
    () () N (View.amount_dma _ _) (amount_send m c t 0) (amount_recv m (pls c t) c 0) O rfl (W := W)
    (by rw [payload_send, set_block8_2]; exact BI.Entails.refl _)
    (by rw [payload_recv]; exact landed m c t fd))
    $$ [Hy Hd HO Ht Ht']
  · isplitr; · iexact HIs
    isplitr; · iexact HIv
    isplitl [Hy]; · rw [set_block8_2]; iexact Hy
    isplitl [Hd]; · rw [set_block8_3]; iexact Hd
    isplitl [HO]; · iexact HO
    isplitl [Ht]; · iexact Ht
    isplitr; · iexact HRs
    isplitl [Ht']; · iexact Ht'
    iexact HRv
  iintro ⟨Hc, HO⟩
  iapply Hk
  isplitl [Hc]; · iexact Hc
  iexists W; iexact HO

/-- The send of block `t`, after which `n` sends are owed. -/
theorem send_wp (K : Dev nD × CK → ℕ) (c : Dev nD) (t : Fin 8) (ht : t ≠ 0) (dst : Dev nD) (hd : dst = pls c t) (n : ℕ) (hn : n + t.val = 7)
    (Q : PUnit → sProp 𝕄) :
    iprop(records m K ∗ sendPay m c t ∗ sendToks c t ∗ slotAny (pls c t) c ∗ ow c (owedSends c (n + 1))
        ∗ ((cred (tallyAt (sendCell c t) () N) ∗ ow c (owedSends c n)) -∗ Q ⟨⟩))
      ⊢ wpc c (send (Memref.whole cc0_scratch2) (Memref.whole cc0_scratch3) cc0_scratch5 cc0_scratch6 (Memref.isWhole_whole _) (Memref.isWhole_whole _) c t dst) Q := by
  unfold send
  simp only [Prog.lift]
  rw [show owedSends c (n + 1) = owedSends c n + tallyAt (recvCell (pls c t) c) () N by
    rw [owedSends, show (⟨7 - n, by omega⟩ : Fin 8) = t from Fin.ext (by show 7 - n = t.val; omega)]]
  iintro ⟨#HR, Hy, Ht, Hd, HO, Hk⟩
  iapply (send_at m K c t ht dst hd _ (blockMy_eq _ c) _ (cellMy_eq c) (owedSends c n))
  isplitr; · iexact HR
  isplitl [Hy]; · iexact Hy
  isplitl [Ht]; · iexact Ht
  isplitl [Hd]; · iexact Hd
  isplitl [HO]; · iexact HO
  iintro H
  simp only [wpc]
  rw [wp_ret]; imodintro
  iapply Hk; iexact H

/-- The end of a send: its block back, its cell closed. -/
theorem sendEnd_wp (K : Dev nD × CK → ℕ) (c : Dev nD) (t : Fin 8) (ht : t ≠ 0) (Q : PUnit → sProp 𝕄) :
    iprop(records m K ∗ atPos (ER F) (sendCell c t) 0 ∅ 0 ∗ cred (tallyAt (sendCell c t) () N) ∗ ow c 0
        ∗ ((sendPay m c t ∗ semVal (sendCell c t) 0 ∗ ow c 0) -∗ Q ⟨⟩))
      ⊢ wpc c (sendEnd (Memref.whole cc0_scratch2) (Memref.whole cc0_scratch3) cc0_scratch5 (Memref.isWhole_whole _) (Memref.isWhole_whole _) c t) Q := by
  unfold sendEnd ow
  simp only [Prog.lift]
  iintro ⟨#HR, Hat, Hc, ⟨%W, HO⟩, Hk⟩
  ihave #Hs := (records_send m K c t) $$ HR
  icases Hs with ⟨#HI, -⟩
  iapply (Rounds.wp_wait_rest_token 𝒱₀ (ER F) (sched m) (c : Thread nD τ) none (κ := K (c, .inr (.inl t)))
      (wpE_waitDma2_eq 𝒱₀ (c : Thread nD τ) none Set.univ) (Set.mem_univ _) () (O := 0) (W := W) (R := 0) (m := 0) (T := ∅)
      (by rw [Nat.zero_add, expect_send m c t ht])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_send m c t ht)) $$ Hp
  imod (Rounds.cell_close (ER F) (sched m) (Set.mem_univ (K (c, .inr (.inl t)))) (fun h => h) (R := 0 + 1) (duties_later m (sendCell c t))) $$ [Hat] with Hz
  · isplitr; · iexact HI
    iexact Hat
  rw [wp_ret]; imodintro
  iapply Hk
  isplitl [Hp]; · iexact Hp
  isplitl [Hz]; · iexact Hz
  iexists _; iexact HO

/-- What is left of an arrival: its cell closed and, from another device, the block. -/
def recvDone (c : Dev nD) (p : Fin 8) : sProp 𝕄 :=
  iprop(semVal (recvCell c p) 0 ∗ if p = c then iprop(emp) else recvPay m c p)

/-- An arrival: nothing from the device itself; from another one its block, stored in the result's rows of that device. -/
theorem recv_wp (K : Dev nD × CK → ℕ) (c : Dev nD) (src : ℕ) (hs : src < 8) (b : BitVec 1) (hb : b = retest (notMe (meW c) src))
    (S : S4096x1024.Idx → Prop) {α : Type} (k : Unit → PR F α) (Q : α → sProp 𝕄) :
    iprop(records m K ∗ recvRight c ⟨src, hs⟩ ∗ ow c 0 ∗ outPts m c S
        ∗ ((recvDone m c ⟨src, hs⟩ ∗ ow c 0 ∗ outPts m c fun i => S i ∨ (c.val ≠ src ∧ (i 0).val / 512 = src)) -∗ wpc c (k ⟨⟩) Q))
      ⊢ wpc c (recv (Memref.whole cc0_stg1_0) (Memref.whole cc0_scratch2) (Memref.whole cc0_scratch3) cc0_scratch6 (Memref.isWhole_whole _) (Memref.isWhole_whole _)
          b src hs k) Q := by
  subst hb
  unfold recv recvRight recvDone ow
  iintro ⟨#HR, ⟨Hat, Hc⟩, ⟨%W, HO⟩, Hout, Hk⟩
  ihave #Hs := (records_recv m K c ⟨src, hs⟩) $$ HR
  icases Hs with ⟨#HI, -⟩
  by_cases hp : (⟨src, hs⟩ : Dev nD) = c
  · have hne : c.val = src := by rw [← hp]
    rw [dif_neg (fun h => (retest_iff c ⟨src, hs⟩).mp h hp)]
    imod (Rounds.cell_close (ER F) (sched m) (g := recvCell c ⟨src, hs⟩) (Set.mem_univ (K (c, .inr (.inr ⟨src, hs⟩)))) (fun h => h) (R := 0)
      (fun r _ => (congrArg (fun p => (sched m).duties (recvCell c p) r) hp).trans (duties_recv_self m c r))) $$ [Hat] with Hz
    · isplitr; · iexact HI
      iexact Hat
    iapply Hk
    isplitl [Hz]
    · isplitl [Hz]; · iexact Hz
      rw [if_pos hp]; iempintro
    isplitl [HO]; · iexists W; iexact HO
    unfold outPts
    icases Hout with ⟨%f, %hf, Hout⟩
    iexists f
    isplitr
    · ipureintro; exact fun i hi => hf i (hi.resolve_right fun h => h.1 hne)
    iexact Hout
  · rw [dif_pos ((retest_iff c ⟨src, hs⟩).mpr hp), if_neg hp, if_neg hp]
    simp only [Prog.lift, Prog.bind_op, Prog.bind_ret, Prog.pure_eq_ret]
    iapply (Rounds.wp_wait_rest_token 𝒱₀ (ER F) (sched m) (c : Thread nD τ) none (κ := K (c, .inr (.inr ⟨src, hs⟩)))
        (wpE_waitDma2_eq 𝒱₀ (c : Thread nD τ) none Set.univ) (Set.mem_univ _) () (O := 0) (W := W) (R := 0) (m := 0) (T := ∅)
        (by rw [Nat.zero_add, expect_recv m c ⟨src, hs⟩ hp])) $$ [Hc HO Hat]
    · isplitr; · iexact HI
      isplitl [Hc]; · iexact Hc
      isplitl [HO]; · iexact HO
      isplitr; · rw [MayWait_zero]; iempintro
      iexact Hat
    iintro ⟨HO, Hat, -, Hp⟩
    ihave Hp := (Entails.of_eq (rest_recv m c ⟨src, hs⟩ hp)) $$ Hp
    imod (Rounds.cell_close (ER F) (sched m) (Set.mem_univ (K (c, .inr (.inr ⟨src, hs⟩)))) (fun h => h) (R := 0 + 1) (duties_later m (recvCell c ⟨src, hs⟩))) $$ [Hat] with Hz
    · isplitr; · iexact HI
      iexact Hat
    unfold recvPay
    ihave Hout := (outPts_open m c S) $$ Hout
    icases Hout with ⟨%f, %hf, Hout⟩
    iapply (wp_load 𝒱₀ (c : Thread nD τ) none Set.univ (m := Memref.whole cc0_scratch3) (S := (blockR ⟨src, hs⟩).set)
      (le_of_eq (Finset.map_refl (s := (blockR ⟨src, hs⟩).set)))) $$ Hp
    iintro Hp
    rw [load_block m c ⟨src, hs⟩]
    iapply (wp_load 𝒱₀ (c : Thread nD τ) none Set.univ (m := Memref.whole cc0_stg1_0) (Finset.subset_univ _)) $$ Hout
    iintro Hout
    iapply (wp_store 𝒱₀ (c : Thread nD τ) none Set.univ (m := Memref.whole cc0_stg1_0) (r := rowsR ⟨src, hs⟩) (Mk := Finset.univ) (Finset.subset_univ _)) $$ Hout
    iintro Hout
    iapply Hk
    isplitl [Hz Hp]
    · isplitl [Hz]; · iexact Hz
      iexact Hp
    isplitl [HO]; · iexists _; iexact HO
    iapply (outPts_write m c S (fun i => c.val ≠ src ∧ (i 0).val / 512 = src) (rowsR ⟨src, hs⟩) (fun i hi => (mem_rows ⟨src, hs⟩ i).mpr hi.2) f hf _ (read_rows m c ⟨src, hs⟩ hp))
    iexact Hout

end Res

end Cert.KernelIdeal.Proof
-- ==== Proof.KernelIdeal.Body.lean ====
/-
# The body

The stages put together, and what the whole body does on device `c`.
-/
module

public import proofs.«01_k».proof.Proof.KernelIdeal.Stages
public import Idealize.ShloMosaic.Lib.Ring

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Eight things side by side. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Seven things side by side, one for each block that is sent. -/
theorem bigSep_rest7 (Φ : Fin 8 → sProp 𝕄) :
    bigSep ({1, 2, 3, 4, 5, 6, 7} : Finset (Fin 8)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
/-- Eight things, the first taken out. -/
theorem bigSep_zero_rest (Φ : Fin 8 → sProp 𝕄) :
    bigSep Finset.univ Φ = iprop(Φ 0 ∗ bigSep ({1, 2, 3, 4, 5, 6, 7} : Finset (Fin 8)) Φ) := by
  rw [bigSep_univ_at Φ 0]; exact congrArg (fun S => iprop(Φ 0 ∗ bigSep S Φ)) (by decide)

section Body
variable (m : (ℓ : Loc nD τ sig) → Buf (Elt F) ℓ)

/-! ## The barrier -/

/-- The devices counted from `c`. -/
def plsE (c : Dev nD) : Fin 8 ≃ Fin 8 := ⟨pls c, fun p => mns p c, fun t => mns_pls c t, fun p => pls_mns p c⟩

/-- What device `c` keeps of its arrival block `d` after signalling device `d`. -/
def keep (c d : Dev nD) : sProp 𝕄 := if c = d then slotAny c d else iprop(emp)

/-- The signal to device `d`, after which the `n` signals to the devices above `d` are owed. -/
theorem signal_wp (K : Dev nD × CK → ℕ) (c d : Dev nD) (n : ℕ) (hn : n + d.val = 7) (d' : Dev nD) (hd : d' = d) (Q : PUnit → sProp 𝕄) :
    iprop(records m K ∗ dutyTok (ER F) (barCell d) 0 c ∗ slotAny c d ∗ ow c (owedAll c (n + 1)) ∗ ((keep c d ∗ ow c (owedAll c n)) -∗ Q ⟨⟩))
      ⊢ wpc c (semSignalWord d' barS 1#32) Q := by
  subst hd
  rw [show owedAll c (n + 1) = owedAll c n + tallyAt (barCell d') () 1 by
    rw [owedAll, show (⟨7 - n, by show 7 - n < 8; omega⟩ : Dev nD) = d' from Fin.ext (by show 7 - n = d'.val; omega)]]
  unfold ow semSignalWord
  iintro ⟨#HR, Ht, Hs, ⟨%W, HO⟩, Hk⟩
  ihave #Hb := (records_bar m K d') $$ HR
  icases Hb with ⟨#HI, #HRd⟩
  have hsplit : slotAny c d' ⊢ (iprop(barPay d' c ∗ keep c d') : sProp 𝕄) := by
    unfold barPay keep
    by_cases h : c = d'
    · rw [if_pos h, if_pos h]; iintro H; isplitr; · iempintro
      iexact H
    · rw [if_neg h, if_neg h]; iintro H; isplitl; · iexact H
      iempintro
  ihave Hs := hsplit $$ Hs
  icases Hs with ⟨Hp, Hkeep⟩
  iapply (Rounds.wp_signal 𝒱₀ (ER F) (sched m) (c : Thread nD τ) none (dst := (d' : Thread nD τ)) (κ := K (d', .inl ()))
      (d := c) (by rw [duties_bar]; exact Finset.mem_univ _) ((amount_bar m d' c).trans (by decide)) () (owedAll c n) rfl) $$ [HO Ht Hp]
  · isplitr; · iexact HI
    isplitl [HO]; · iexact HO
    isplitl [Ht]; · iexact Ht
    isplitl [Hp]; · rw [payload_bar]; iexact Hp
    iexact HRd
  iintro HO
  rw [wp_ret]; imodintro
  iapply Hk
  isplitl [Hkeep]; · iexact Hkeep
  iexists W; iexact HO

/-- The wait for the eight signals: everybody's block for `c`. -/
theorem barWait_wp (K : Dev nD × CK → ℕ) (c : Dev nD) (Q : PUnit → sProp 𝕄) :
    iprop(records m K ∗ levAts L lv ∗ (atPos (ER F) (barCell c) 0 ∅ 0 ∗ cred (tallyAt (barCell c) () 8)) ∗ ow c (owedAll c 0)
        ∗ ((semVal (barCell c) 0 ∗ (bigSep Finset.univ fun t : Fin 8 => barPay c (pls c t)) ∗ ow c (owedSends c 7)) -∗ Q ⟨⟩))
      ⊢ wpc c (semWaitWord barS 8#32) Q := by
  rw [owedAll]
  unfold ow semWaitWord
  iintro ⟨#HR, #Hlev, ⟨Hat, Hc⟩, ⟨%W, HO⟩, Hk⟩
  ihave #Hb := (records_bar m K c) $$ HR
  icases Hb with ⟨#HI, -⟩
  iapply (Rounds.wp_wait_rest_token 𝒱₀ (ER F) (sched m) (c : Thread nD τ) none (κ := K (c, .inl ()))
      (wpE_semWait_eq 𝒱₀ (c : Thread nD τ) none Set.univ) (Set.mem_univ _) () (O := owedSends c 7) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c 7); iexact Hlev
    iexact Hat
  iintro ⟨HO, Hat, -, Hp⟩
  ihave Hp := (Entails.of_eq ((rest_bar m c).trans (bigSep_univ_equiv (plsE c) (fun p : Fin 8 => (barPay c p : sProp 𝕄))))) $$ Hp
  imod (Rounds.cell_close (ER F) (sched m) (Set.mem_univ (K (c, .inl ()))) (fun h => h) (R := 0 + 1) (duties_later m (barCell c))) $$ [Hat] with Hz
  · isplitr; · iexact HI
    iexact Hat
  rw [wp_ret]; imodintro
  iapply Hk
  isplitl [Hz]; · iexact Hz
  isplitl [Hp]; · iexact Hp
  iexists _; iexact HO

/-- The whole barrier. -/
theorem barrier_wp (K : Dev nD × CK → ℕ) (c : Dev nD) (Q : PUnit → sProp 𝕄) :
    iprop(records m K ∗ levAts L lv ∗ (atPos (ER F) (barCell c) 0 ∅ 0 ∗ cred (tallyAt (barCell c) () 8))
        ∗ (bigSep Finset.univ fun d : Fin 8 => dutyTok (ER F) (barCell d) 0 c) ∗ (bigSep Finset.univ fun d : Fin 8 => slotAny c d) ∗ ow c (O₀ c)
        ∗ ((semVal (barCell c) 0 ∗ (bigSep Finset.univ fun d : Fin 8 => keep c d) ∗ (bigSep Finset.univ fun t : Fin 8 => barPay c (pls c t))
          ∗ ow c (owedSends c 7)) -∗ Q ⟨⟩))
      ⊢ wpc c barrier Q := by
  unfold barrier O₀
  simp only [wpc, wp_bind]
  rw [bigSep_fin8, bigSep_fin8, bigSep_fin8]
  iintro ⟨#HR, #Hlev, Hb, ⟨T0, T1, T2, T3, T4, T5, T6, T7⟩, ⟨S0, S1, S2, S3, S4, S5, S6, S7⟩, HO, Hk⟩
  iapply (signal_wp m K c 0 7 rfl _ dev1_eq); isplitr; · iexact HR
  isplitl [T0]; · iexact T0
  isplitl [S0]; · iexact S0
  isplitl [HO]; · iexact HO
  iintro ⟨K0, HO⟩
  iapply (signal_wp m K c 1 6 rfl _ dev2_eq); isplitr; · iexact HR
  isplitl [T1]; · iexact T1
  isplitl [S1]; · iexact S1
  isplitl [HO]; · iexact HO
  iintro ⟨K1, HO⟩
  iapply (signal_wp m K c 2 5 rfl _ dev3_eq); isplitr; · iexact HR
  isplitl [T2]; · iexact T2
  isplitl [S2]; · iexact S2
  isplitl [HO]; · iexact HO
  iintro ⟨K2, HO⟩
  iapply (signal_wp m K c 3 4 rfl _ dev4_eq); isplitr; · iexact HR
  isplitl [T3]; · iexact T3
  isplitl [S3]; · iexact S3
  isplitl [HO]; · iexact HO
  iintro ⟨K3, HO⟩
  iapply (signal_wp m K c 4 3 rfl _ dev5_eq); isplitr; · iexact HR
  isplitl [T4]; · iexact T4
  isplitl [S4]; · iexact S4
  isplitl [HO]; · iexact HO
  iintro ⟨K4, HO⟩
  iapply (signal_wp m K c 5 2 rfl _ dev6_eq); isplitr; · iexact HR
  isplitl [T5]; · iexact T5
  isplitl [S5]; · iexact S5
  isplitl [HO]; · iexact HO
  iintro ⟨K5, HO⟩
  iapply (signal_wp m K c 6 1 rfl _ dev7_eq); isplitr; · iexact HR
  isplitl [T6]; · iexact T6
  isplitl [S6]; · iexact S6
  isplitl [HO]; · iexact HO
  iintro ⟨K6, HO⟩
  iapply (signal_wp m K c 7 0 rfl _ dev8_eq); isplitr; · iexact HR
  isplitl [T7]; · iexact T7
  isplitl [S7]; · iexact S7
  isplitl [HO]; · iexact HO
  iintro ⟨K7, HO⟩
  iapply (barWait_wp m K c)
  isplitr; · iexact HR
  isplitr; · iexact Hlev
  isplitl [Hb]; · iexact Hb
  isplitl [HO]; · iexact HO
  iintro ⟨Hz, Hp, HO⟩
  iapply Hk
  isplitl [Hz]; · iexact Hz
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [Hp]; · iexact Hp
  iexact HO

/-- Of its own arrival buffer device `c` keeps block `c`. -/
theorem keep_self (c : Dev nD) : (bigSep Finset.univ fun d : Fin 8 => (keep c d : sProp 𝕄)) ⊢ slotAny c c :=
  (bigSep_elim (Finset.mem_univ (c : Fin 8))).trans (by unfold keep; rw [if_pos rfl]; exact BI.Entails.refl _)

/-! ## The blocks -/

theorem outPts_mono (c : Dev nD) {S S' : S4096x1024.Idx → Prop} (h : ∀ i, S' i → S i) : outPts m c S ⊢ outPts m c S' := by
  unfold outPts
  iintro ⟨%f, %hf, H⟩
  iexists f
  isplitr
  · ipureintro; exact fun i hi => hf i (h i hi)
  iexact H

/-- Block 0: the device's own rows of the result. -/
theorem blockOwn_wp (c : Dev nD) (Q : PUnit → sProp 𝕄) :
    iprop(wIdle m c 0 (by decide) ∗ wIdle m c 1 (by decide) ∗ xbPts m c ∗ ow c (owedSends c 7) ∗ levAts L lv ∗ outPts m c (fun _ => False)
        ∗ ((wBusy m c 0 (by decide) 1 0 ∗ wIdle m c 1 (by decide) ∗ xbPts m c ∗ ow c (owedSends c 7) ∗ outPts m c (rowP c)) -∗ Q ⟨⟩))
      ⊢ wpc c (blockOwn (Memref.whole main_arg1) (Memref.whole cc0_stg1_0) (Memref.whole cc0_scratch0) (Memref.whole cc0_scratch1) cc0_scratch4 c) Q := by
  unfold blockOwn
  simp only [wpc, wp_bind]
  iintro ⟨W0, W1, Hx, HO, #Hlev, Hout, Hk⟩
  iapply (wStart_wp m c 0 0 0 _); isplitl [W0]; · iexact W0
  iintro W0
  iapply (wStart_wp m c 0 1 1 _); isplitl [W1]; · iexact W1
  iintro W1
  iapply (tileOwn_wp m c 0 0 _ _ _ (k0_off2_eq c) 7); isplitl [W0]; · iexact W0
  isplitl [Hx]; · iexact Hx
  isplitl [HO]; · iexact HO
  isplitr; · iexact Hlev
  isplitl [Hout]; · iexact Hout
  iintro ⟨W0, Hx, HO, Hout⟩
  iapply (wStart_wp m c 0 2 0 _); isplitl [W0]; · iexact W0
  iintro W0
  iapply (tileOwn_wp m c 1 1 _ _ _ (k0_off3_eq c) 7); isplitl [W1]; · iexact W1
  isplitl [Hx]; · iexact Hx
  isplitl [HO]; · iexact HO
  isplitr; · iexact Hlev
  isplitl [Hout]; · iexact Hout
  iintro ⟨W1, Hx, HO, Hout⟩
  iapply (wStart_wp m c 0 3 1 _); isplitl [W1]; · iexact W1
  iintro W1
  iapply (tileOwn_wp m c 2 0 _ _ _ (k0_off4_eq c) 7); isplitl [W0]; · iexact W0
  isplitl [Hx]; · iexact Hx
  isplitl [HO]; · iexact HO
  isplitr; · iexact Hlev
  isplitl [Hout]; · iexact Hout
  iintro ⟨W0, Hx, HO, Hout⟩
  iapply (wStart_wp m c 1 0 0 _); isplitl [W0]; · iexact W0
  iintro W0
  iapply (tileOwn_wp m c 3 1 _ _ _ (k0_off5_eq c) 7); isplitl [W1]; · iexact W1
  isplitl [Hx]; · iexact Hx
  isplitl [HO]; · iexact HO
  isplitr; · iexact Hlev
  isplitl [Hout]; · iexact Hout
  iintro ⟨W1, Hx, HO, Hout⟩
  iapply Hk
  isplitl [W0]; · iexact W0
  isplitl [W1]; · iexact W1
  isplitl [Hx]; · iexact Hx
  isplitl [HO]; · iexact HO
  iapply (outPts_mono m c (fun i hi => ?_)) $$ Hout
  have h1 : (i 1).val < 1024 := (i 1).isLt
  have h0 : (i 0).val / 512 = c.val := hi
  have : (i 1).val / 256 = 0 ∨ (i 1).val / 256 = 1 ∨ (i 1).val / 256 = 2 ∨ (i 1).val / 256 = 3 := by omega
  rcases this with h | h | h | h
  · exact Or.inl (Or.inl (Or.inl (Or.inr ⟨h0, h⟩)))
  · exact Or.inl (Or.inl (Or.inr ⟨h0, h⟩))
  · exact Or.inl (Or.inr ⟨h0, h⟩)
  · exact Or.inr ⟨h0, h⟩

/-- The staged block's elements in its first three tiles. -/
def headP (t : Fin 8) (i : S8x512x1024.Idx) : Prop := i ∈ (blockR t).set ∧ (i 2).val / 256 < 3

theorem yPts_mono (c : Dev nD) (t : Fin 8) {S S' : S8x512x1024.Idx → Prop} (h : ∀ i, S' i → S i) : yPts m c t S ⊢ yPts m c t S' := by
  unfold yPts
  iintro ⟨%f, %hf, H⟩
  iexists f
  isplitr
  · ipureintro; exact fun i hi => hf i (h i hi)
  iexact H

/-- The first three tiles of block `t`. -/
theorem blockHead_wp (c : Dev nD) (t : Fin 8) (n : ℕ) (Q : PUnit → sProp 𝕄) :
    iprop(wBusy m c 0 (by decide) t 0 ∗ wIdle m c 1 (by decide) ∗ xbPts m c ∗ ow c (owedSends c n) ∗ levAts L lv ∗ yPts m c t (fun _ => False)
        ∗ ((wIdle m c 0 (by decide) ∗ wBusy m c 1 (by decide) t 3 ∗ xbPts m c ∗ ow c (owedSends c n) ∗ yPts m c t (headP t)) -∗ Q ⟨⟩))
      ⊢ wpc c (blockHead (Memref.whole main_arg1) (Memref.whole cc0_scratch0) (Memref.whole cc0_scratch1) (Memref.whole cc0_scratch2) cc0_scratch4
          (Memref.isWhole_whole _) c t) Q := by
  unfold blockHead
  simp only [wpc, wp_bind]
  iintro ⟨W0, W1, Hx, HO, #Hlev, Hy, Hk⟩
  iapply (wStart_wp m c t 1 1 _); isplitl [W1]; · iexact W1
  iintro W1
  iapply (tileOut_wp m c t 0 0 _ n); isplitl [W0]; · iexact W0
  isplitl [Hx]; · iexact Hx
  isplitl [HO]; · iexact HO
  isplitr; · iexact Hlev
  isplitl [Hy]; · iexact Hy
  iintro ⟨W0, Hx, HO, Hy⟩
  iapply (wStart_wp m c t 2 0 _); isplitl [W0]; · iexact W0
  iintro W0
  iapply (tileOut_wp m c t 1 1 _ n); isplitl [W1]; · iexact W1
  isplitl [Hx]; · iexact Hx
  isplitl [HO]; · iexact HO
  isplitr; · iexact Hlev
  isplitl [Hy]; · iexact Hy
  iintro ⟨W1, Hx, HO, Hy⟩
  iapply (wStart_wp m c t 3 1 _); isplitl [W1]; · iexact W1
  iintro W1
  iapply (tileOut_wp m c t 2 0 _ n); isplitl [W0]; · iexact W0
  isplitl [Hx]; · iexact Hx
  isplitl [HO]; · iexact HO
  isplitr; · iexact Hlev
  isplitl [Hy]; · iexact Hy
  iintro ⟨W0, Hx, HO, Hy⟩
  iapply Hk
  isplitl [W0]; · iexact W0
  isplitl [W1]; · iexact W1
  isplitl [Hx]; · iexact Hx
  isplitl [HO]; · iexact HO
  iapply (yPts_mono m c t (fun i hi => ?_)) $$ Hy
  obtain ⟨hb, h2⟩ := hi
  refine ⟨hb, ?_⟩
  have : (i 2).val / 256 = 0 ∨ (i 2).val / 256 = 1 ∨ (i 2).val / 256 = 2 := by omega
  rcases this with h | h | h
  · exact Or.inl ⟨hb, Or.inl ⟨hb, Or.inr h⟩⟩
  · exact Or.inl ⟨hb, Or.inr h⟩
  · exact Or.inr h

/-- The last tile of block `t` and its send, after which `n` sends are owed. -/
theorem blockTail_wp (K : Dev nD × CK → ℕ) (c : Dev nD) (t : Fin 8) (ht : t ≠ 0) (dst : Dev nD) (hd : dst = pls c t) (n : ℕ) (hn : n + t.val = 7)
    (Q : PUnit → sProp 𝕄) :
    iprop(records m K ∗ wBusy m c 1 (by decide) t 3 ∗ xbPts m c ∗ ow c (owedSends c (n + 1)) ∗ levAts L lv ∗ yPts m c t (headP t)
        ∗ sendToks c t ∗ barPay c (pls c t)
        ∗ ((wIdle m c 1 (by decide) ∗ xbPts m c ∗ ow c (owedSends c n) ∗ cred (tallyAt (sendCell c t) () N)) -∗ Q ⟨⟩))
      ⊢ wpc c (blockTail (Memref.whole main_arg1) (Memref.whole cc0_scratch0) (Memref.whole cc0_scratch1) (Memref.whole cc0_scratch2) (Memref.whole cc0_scratch3)
          cc0_scratch4 cc0_scratch5 cc0_scratch6 (Memref.isWhole_whole _) (Memref.isWhole_whole _) c t dst) Q := by
  unfold blockTail
  simp only [wpc, wp_bind]
  rw [show (barPay c (pls c t) : sProp 𝕄) = slotAny (pls c t) c from if_neg fun h => ht ((pls_eq_self_iff c t).mp h)]
  iintro ⟨#HR, W1, Hx, HO, #Hlev, Hy, Ht, Hd, Hk⟩
  iapply (tileOut_wp m c t 3 1 _ (n + 1)); isplitl [W1]; · iexact W1
  isplitl [Hx]; · iexact Hx
  isplitl [HO]; · iexact HO
  isplitr; · iexact Hlev
  isplitl [Hy]; · iexact Hy
  iintro ⟨W1, Hx, HO, Hy⟩
  iapply (send_wp m K c t ht dst hd n hn)
  isplitr; · iexact HR
  isplitl [Hy]
  · iapply (yPts_done m c t _ (fun i hi => ?_)) $$ Hy
    refine ⟨hi, ?_⟩
    have h2 : (i 2).val < 1024 := (i 2).isLt
    by_cases h : (i 2).val / 256 < 3
    · exact Or.inl ⟨hi, h⟩
    · exact Or.inr (by show (i 2).val / 256 = 3; omega)
  isplitl [Ht]; · iexact Ht
  isplitl [Hd]; · iexact Hd
  isplitl [HO]; · iexact HO
  iintro ⟨Hc, HO⟩
  iapply Hk
  isplitl [W1]; · iexact W1
  isplitl [Hx]; · iexact Hx
  isplitl [HO]; · iexact HO
  iexact Hc

/-- Block `t` and its send, the first weight tile of block `t'` on its way. -/
theorem blockOut_wp (K : Dev nD × CK → ℕ) (c : Dev nD) (t t' : Fin 8) (ht : t ≠ 0) (dst : Dev nD) (hd : dst = pls c t) (n : ℕ) (hn : n + t.val = 7)
    (Q : PUnit → sProp 𝕄) :
    iprop(records m K ∗ wBusy m c 0 (by decide) t 0 ∗ wIdle m c 1 (by decide) ∗ xbPts m c ∗ ow c (owedSends c (n + 1)) ∗ levAts L lv
        ∗ yPts m c t (fun _ => False) ∗ sendToks c t ∗ barPay c (pls c t)
        ∗ ((wBusy m c 0 (by decide) t' 0 ∗ wIdle m c 1 (by decide) ∗ xbPts m c ∗ ow c (owedSends c n) ∗ cred (tallyAt (sendCell c t) () N)) -∗ Q ⟨⟩))
      ⊢ wpc c (blockOut (Memref.whole main_arg1) (Memref.whole cc0_scratch0) (Memref.whole cc0_scratch1) (Memref.whole cc0_scratch2) (Memref.whole cc0_scratch3)
          cc0_scratch4 cc0_scratch5 cc0_scratch6 (Memref.isWhole_whole _) (Memref.isWhole_whole _) c t t' dst) Q := by
  unfold blockOut
  simp only [wpc, wp_bind]
  iintro ⟨#HR, W0, W1, Hx, HO, #Hlev, Hy, Ht, Hd, Hk⟩
  iapply (blockHead_wp m c t (n + 1)); isplitl [W0]; · iexact W0
  isplitl [W1]; · iexact W1
  isplitl [Hx]; · iexact Hx
  isplitl [HO]; · iexact HO
  isplitr; · iexact Hlev
  isplitl [Hy]; · iexact Hy
  iintro ⟨W0, W1, Hx, HO, Hy⟩
  iapply (wStart_wp m c t' 0 0 _); isplitl [W0]; · iexact W0
  iintro W0
  iapply (blockTail_wp m K c t ht dst hd n hn); isplitr; · iexact HR
  isplitl [W1]; · iexact W1
  isplitl [Hx]; · iexact Hx
  isplitl [HO]; · iexact HO
  isplitr; · iexact Hlev
  isplitl [Hy]; · iexact Hy
  isplitl [Ht]; · iexact Ht
  isplitl [Hd]; · iexact Hd
  iintro ⟨W1, Hx, HO, Hc⟩
  iapply Hk
  isplitl [W0]; · iexact W0
  isplitl [W1]; · iexact W1
  isplitl [Hx]; · iexact Hx
  isplitl [HO]; · iexact HO
  iexact Hc

/-! ## The arrivals and the ends of the sends -/

/-- The elements of the result in the rows of device `p`, if `p` is another device. -/
abbrev otherP (c : Dev nD) (p : ℕ) (i : S4096x1024.Idx) : Prop := c.val ≠ p ∧ (i 0).val / 512 = p

set_option maxHeartbeats 1000000 in
/-- The arrivals of blocks 1 to 7. -/
theorem recvs_wp (K : Dev nD × CK → ℕ) (c : Dev nD) (S : S4096x1024.Idx → Prop) (Q : PUnit → sProp 𝕄) :
    iprop(records m K ∗ (recvRight c 1 ∗ recvRight c 2 ∗ recvRight c 3 ∗ recvRight c 4 ∗ recvRight c 5 ∗ recvRight c 6 ∗ recvRight c 7) ∗ ow c 0 ∗ outPts m c S
        ∗ (((recvDone m c 1 ∗ recvDone m c 2 ∗ recvDone m c 3 ∗ recvDone m c 4 ∗ recvDone m c 5 ∗ recvDone m c 6 ∗ recvDone m c 7) ∗ ow c 0
          ∗ outPts m c fun i => S i ∨ (c.val ≠ (i 0).val / 512 ∧ 1 ≤ (i 0).val / 512)) -∗ Q ⟨⟩))
      ⊢ wpc c (recvs (Memref.whole cc0_stg1_0) (Memref.whole cc0_scratch2) (Memref.whole cc0_scratch3) cc0_scratch6 (Memref.isWhole_whole _) (Memref.isWhole_whole _)
          (meW c) (notMe (meW c) 1)) Q := by
  unfold recvs
  iintro ⟨#HR, ⟨V1, V2, V3, V4, V5, V6, V7⟩, HO, Hout, Hk⟩
  iapply (recv_wp m K c 1 _ _ rfl); isplitr; · iexact HR
  isplitl [V1]; · iexact V1
  isplitl [HO]; · iexact HO
  isplitl [Hout]; · iexact Hout
  iintro ⟨V1, HO, Hout⟩
  iapply (recv_wp m K c 2 _ _ rfl); isplitr; · iexact HR
  isplitl [V2]; · iexact V2
  isplitl [HO]; · iexact HO
  isplitl [Hout]; · iexact Hout
  iintro ⟨V2, HO, Hout⟩
  iapply (recv_wp m K c 3 _ _ rfl); isplitr; · iexact HR
  isplitl [V3]; · iexact V3
  isplitl [HO]; · iexact HO
  isplitl [Hout]; · iexact Hout
  iintro ⟨V3, HO, Hout⟩
  iapply (recv_wp m K c 4 _ _ rfl); isplitr; · iexact HR
  isplitl [V4]; · iexact V4
  isplitl [HO]; · iexact HO
  isplitl [Hout]; · iexact Hout
  iintro ⟨V4, HO, Hout⟩
  iapply (recv_wp m K c 5 _ _ rfl); isplitr; · iexact HR
  isplitl [V5]; · iexact V5
  isplitl [HO]; · iexact HO
  isplitl [Hout]; · iexact Hout
  iintro ⟨V5, HO, Hout⟩
  iapply (recv_wp m K c 6 _ _ rfl); isplitr; · iexact HR
  isplitl [V6]; · iexact V6
  isplitl [HO]; · iexact HO
  isplitl [Hout]; · iexact Hout
  iintro ⟨V6, HO, Hout⟩
  iapply (recv_wp m K c 7 _ _ rfl); isplitr; · iexact HR
  isplitl [V7]; · iexact V7
  isplitl [HO]; · iexact HO
  isplitl [Hout]; · iexact Hout
  iintro ⟨V7, HO, Hout⟩
  simp only [wpc, Prog.pure_eq_ret]
  rw [wp_ret]; imodintro
  iapply Hk
  isplitl [V1 V2 V3 V4 V5 V6 V7]
  · isplitl [V1]; · iexact V1
    isplitl [V2]; · iexact V2
    isplitl [V3]; · iexact V3
    isplitl [V4]; · iexact V4
    isplitl [V5]; · iexact V5
    isplitl [V6]; · iexact V6
    iexact V7
  isplitl [HO]; · iexact HO
  iapply (outPts_mono m c (fun i hi => ?_)) $$ Hout
  have h0 : (i 0).val < 4096 := (i 0).isLt
  have : S i ∨ otherP c 1 i ∨ otherP c 2 i ∨ otherP c 3 i ∨ otherP c 4 i ∨ otherP c 5 i ∨ otherP c 6 i ∨ otherP c 7 i := by
    rcases hi with h | ⟨h1, h2⟩
    · exact Or.inl h
    · refine Or.inr ?_
      show (_ ∧ _) ∨ (_ ∧ _) ∨ (_ ∧ _) ∨ (_ ∧ _) ∨ (_ ∧ _) ∨ (_ ∧ _) ∨ (_ ∧ _)
      omega
  rcases this with h | h | h | h | h | h | h | h
  · exact Or.inl (Or.inl (Or.inl (Or.inl (Or.inl (Or.inl (Or.inl h))))))
  · exact Or.inl (Or.inl (Or.inl (Or.inl (Or.inl (Or.inl (Or.inr h))))))
  · exact Or.inl (Or.inl (Or.inl (Or.inl (Or.inl (Or.inr h)))))
  · exact Or.inl (Or.inl (Or.inl (Or.inl (Or.inr h))))
  · exact Or.inl (Or.inl (Or.inl (Or.inr h)))
  · exact Or.inl (Or.inl (Or.inr h))
  · exact Or.inl (Or.inr h)
  · exact Or.inr h

set_option maxHeartbeats 1000000 in
/-- The ends of the sends. -/
theorem sendEnds_wp (K : Dev nD × CK → ℕ) (c : Dev nD) (Q : PUnit → sProp 𝕄) :
    iprop(records m K ∗ (bigSep ({1, 2, 3, 4, 5, 6, 7} : Finset (Fin 8)) fun t => iprop(atPos (ER F) (sendCell c t) 0 ∅ 0 ∗ cred (tallyAt (sendCell c t) () N))) ∗ ow c 0
        ∗ (((bigSep ({1, 2, 3, 4, 5, 6, 7} : Finset (Fin 8)) fun t => iprop(sendPay m c t ∗ semVal (sendCell c t) 0)) ∗ ow c 0) -∗ Q ⟨⟩))
      ⊢ wpc c (sendEnds (Memref.whole cc0_scratch2) (Memref.whole cc0_scratch3) cc0_scratch5 (Memref.isWhole_whole _) (Memref.isWhole_whole _) c) Q := by
  rw [bigSep_rest7, bigSep_rest7]
  unfold sendEnds
  simp only [wpc, wp_bind]
  iintro ⟨#HR, ⟨⟨A1, C1⟩, ⟨A2, C2⟩, ⟨A3, C3⟩, ⟨A4, C4⟩, ⟨A5, C5⟩, ⟨A6, C6⟩, ⟨A7, C7⟩⟩, HO, Hk⟩
  iapply (sendEnd_wp m K c 1 (by decide)); isplitr; · iexact HR
  isplitl [A1]; · iexact A1
  isplitl [C1]; · iexact C1
  isplitl [HO]; · iexact HO
  iintro ⟨P1, Z1, HO⟩
  iapply (sendEnd_wp m K c 2 (by decide)); isplitr; · iexact HR
  isplitl [A2]; · iexact A2
  isplitl [C2]; · iexact C2
  isplitl [HO]; · iexact HO
  iintro ⟨P2, Z2, HO⟩
  iapply (sendEnd_wp m K c 3 (by decide)); isplitr; · iexact HR
  isplitl [A3]; · iexact A3
  isplitl [C3]; · iexact C3
  isplitl [HO]; · iexact HO
  iintro ⟨P3, Z3, HO⟩
  iapply (sendEnd_wp m K c 4 (by decide)); isplitr; · iexact HR
  isplitl [A4]; · iexact A4
  isplitl [C4]; · iexact C4
  isplitl [HO]; · iexact HO
  iintro ⟨P4, Z4, HO⟩
  iapply (sendEnd_wp m K c 5 (by decide)); isplitr; · iexact HR
  isplitl [A5]; · iexact A5
  isplitl [C5]; · iexact C5
  isplitl [HO]; · iexact HO
  iintro ⟨P5, Z5, HO⟩
  iapply (sendEnd_wp m K c 6 (by decide)); isplitr; · iexact HR
  isplitl [A6]; · iexact A6
  isplitl [C6]; · iexact C6
  isplitl [HO]; · iexact HO
  iintro ⟨P6, Z6, HO⟩
  iapply (sendEnd_wp m K c 7 (by decide)); isplitr; · iexact HR
  isplitl [A7]; · iexact A7
  isplitl [C7]; · iexact C7
  isplitl [HO]; · iexact HO
  iintro ⟨P7, Z7, HO⟩
  iapply Hk
  isplitr [HO]
  · isplitl [P1 Z1]
    · isplitl [P1]; · iexact P1
      iexact Z1
    isplitl [P2 Z2]
    · isplitl [P2]; · iexact P2
      iexact Z2
    isplitl [P3 Z3]
    · isplitl [P3]; · iexact P3
      iexact Z3
    isplitl [P4 Z4]
    · isplitl [P4]; · iexact P4
      iexact Z4
    isplitl [P5 Z5]
    · isplitl [P5]; · iexact P5
      iexact Z5
    isplitl [P6 Z6]
    · isplitl [P6]; · iexact P6
      iexact Z6
    isplitl [P7]; · iexact P7
    iexact Z7
  iexact HO

/-! ## The buffers taken apart and put together -/

theorem block_disjoint (t t' : Fin 8) (h : t ≠ t') : Disjoint (blockR t).set (blockR t').set :=
  Finset.disjoint_left.mpr fun i hi hi' => h (Fin.ext (((mem_block t i).mp hi).symm.trans ((mem_block t' i).mp hi')))
theorem block_cover : Finset.univ.biUnion (fun t : Fin 8 => (blockR t).set) = (Finset.univ : Finset S8x512x1024.Idx) :=
  Finset.eq_univ_of_forall fun i => Finset.mem_biUnion.mpr ⟨i 0, Finset.mem_univ _, (mem_block (i 0) i).mpr rfl⟩
theorem slot_disjoint : Disjoint (slotR 0 (by decide)).set (slotR 1 (by decide)).set :=
  Finset.disjoint_left.mpr fun i hi hi' => by
    have h0 := (mem_slot 0 (by decide) i).mp hi
    have h1 := (mem_slot 1 (by decide) i).mp hi'
    omega

/-- The staged blocks, nothing of them computed. -/
theorem scratch2_split (c : Dev nD) :
    iprop(∃ f : Buf (Elt F) ((c : Thread nD τ).loc cc0_scratch2), ((c : Thread nD τ).loc cc0_scratch2) ↦{fullShare} f)
      ⊢ (bigSep Finset.univ fun t : Fin 8 => yPts m c t fun _ => False) := by
  iintro ⟨%f, H⟩
  ihave H := (Entails.of_eq (Ring.pointsTo_blocks (ℓ := (c : Thread nD τ).loc cc0_scratch2) (fun t : Fin 8 => (blockR t).set) block_disjoint block_cover f)) $$ H
  have h (t : Fin 8) : (((c : Thread nD τ).loc cc0_scratch2) ↦[(blockR t).set]{fullShare} f : sProp 𝕄) ⊢ yPts m c t fun _ => False := by
    unfold yPts
    iintro H
    iexists f
    isplitr
    · ipureintro; exact fun i hi => hi.elim
    iexact H
  iapply (show (bigSep Finset.univ fun t : Fin 8 => (((c : Thread nD τ).loc cc0_scratch2) ↦[(blockR t).set]{fullShare} f : sProp 𝕄))
    ⊢ bigSep Finset.univ fun t : Fin 8 => yPts m c t fun _ => False from bigSep_mono fun t _ => h t) $$ H
/-- The arrival buffer, block by block. -/
theorem scratch3_split (c : Dev nD) :
    iprop(∃ f : Buf (Elt F) ((c : Thread nD τ).loc cc0_scratch3), ((c : Thread nD τ).loc cc0_scratch3) ↦{fullShare} f)
      ⊢ (bigSep Finset.univ fun t : Fin 8 => slotAny c t : sProp 𝕄) := by
  iintro ⟨%f, H⟩
  ihave H := (Entails.of_eq (Ring.pointsTo_blocks (ℓ := (c : Thread nD τ).loc cc0_scratch3) (fun t : Fin 8 => (blockR t).set) block_disjoint block_cover f)) $$ H
  have h (t : Fin 8) : (((c : Thread nD τ).loc cc0_scratch3) ↦[(blockR t).set]{fullShare} f : sProp 𝕄) ⊢ slotAny c t := by
    unfold slotAny
    iintro H
    iexists f
    iexact H
  iapply (show (bigSep Finset.univ fun t : Fin 8 => (((c : Thread nD τ).loc cc0_scratch3) ↦[(blockR t).set]{fullShare} f : sProp 𝕄))
    ⊢ bigSep Finset.univ fun t : Fin 8 => (slotAny c t : sProp 𝕄) from bigSep_mono fun t _ => h t) $$ H
/-- The whole of a buffer of eight blocks again. -/
theorem scratch2_join (c : Dev nD) (f₀ : Buf (Elt F) ((c : Thread nD τ).loc cc0_scratch2)) :
    iprop((bigSep Finset.univ fun t : Fin 8 =>
        iprop(∃ f : Buf (Elt F) ((c : Thread nD τ).loc cc0_scratch2), ((c : Thread nD τ).loc cc0_scratch2) ↦[(blockR t).set]{fullShare} f)))
      ⊢ (iprop(∃ f : Buf (Elt F) ((c : Thread nD τ).loc cc0_scratch2), ((c : Thread nD τ).loc cc0_scratch2) ↦{fullShare} f) : sProp 𝕄) :=
  Ring.pointsTo_blocks_join_exists (ℓ := (c : Thread nD τ).loc cc0_scratch2) (fun t : Fin 8 => (blockR t).set) block_disjoint block_cover f₀
theorem scratch3_join (c : Dev nD) (f₀ : Buf (Elt F) ((c : Thread nD τ).loc cc0_scratch3)) :
    (bigSep Finset.univ fun t : Fin 8 => slotAny c t : sProp 𝕄)
      ⊢ iprop(∃ f : Buf (Elt F) ((c : Thread nD τ).loc cc0_scratch3), ((c : Thread nD τ).loc cc0_scratch3) ↦{fullShare} f) :=
  Ring.pointsTo_blocks_join_exists (ℓ := (c : Thread nD τ).loc cc0_scratch3) (fun t : Fin 8 => (blockR t).set) block_disjoint block_cover f₀

/-- The staged blocks, block 0 never used and the others sent and back. -/
theorem sent_join (c : Dev nD) :
    iprop(yPts m c 0 (fun _ => False) ∗ bigSep ({1, 2, 3, 4, 5, 6, 7} : Finset (Fin 8)) fun t => sendPay m c t)
      ⊢ (iprop(∃ f : Buf (Elt F) ((c : Thread nD τ).loc cc0_scratch2), ((c : Thread nD τ).loc cc0_scratch2) ↦{fullShare} f) : sProp 𝕄) := by
  have h0 : yPts m c 0 (fun _ => False) ⊢ (iprop(∃ f : Buf (Elt F) ((c : Thread nD τ).loc cc0_scratch2),
      ((c : Thread nD τ).loc cc0_scratch2) ↦[(blockR 0).set]{fullShare} f) : sProp 𝕄) := by
    unfold yPts; iintro ⟨%f, -, H⟩; iexists f; iexact H
  have h (t : Fin 8) : sendPay m c t ⊢ (iprop(∃ f : Buf (Elt F) ((c : Thread nD τ).loc cc0_scratch2),
      ((c : Thread nD τ).loc cc0_scratch2) ↦[(blockR t).set]{fullShare} f) : sProp 𝕄) := by
    unfold sendPay; iintro H; iexists (blocks m c); iexact H
  refine .trans ?_ (scratch2_join c (m ((c : Thread nD τ).loc cc0_scratch2)))
  rw [bigSep_zero_rest]
  exact BI.sep_mono h0 (bigSep_mono fun t _ => h t)
/-- The arrival buffer, its own block kept and the others arrived. -/
theorem arrived_join (c : Dev nD) :
    iprop(slotAny c c ∗ bigSep Finset.univ fun p : Fin 8 => if p = c then iprop(emp) else recvPay m c p)
      ⊢ (iprop(∃ f : Buf (Elt F) ((c : Thread nD τ).loc cc0_scratch3), ((c : Thread nD τ).loc cc0_scratch3) ↦{fullShare} f) : sProp 𝕄) := by
  refine .trans ?_ (scratch3_join c (m ((c : Thread nD τ).loc cc0_scratch3)))
  rw [bigSep_univ_at (fun t : Fin 8 => (slotAny c t : sProp 𝕄)) c, bigSep_univ_at (fun p : Fin 8 => if p = c then iprop(emp) else recvPay m c p) c]
  have h (p : Fin 8) (hp : p ≠ c) : (if p = c then iprop(emp) else recvPay m c p : sProp 𝕄) ⊢ slotAny c p := by
    rw [if_neg hp]
    unfold recvPay slotAny
    iintro H; iexists (arrived m c); iexact H
  exact sep_mono_right (sep_elim_right.trans (bigSep_mono fun p hp => h p (Finset.ne_of_mem_erase hp)))

/-- The cells of the weights' copies, at zero. -/
def wZero (c : Dev nD) : sProp 𝕄 :=
  iprop(semVal ((c : Thread nD τ), .dma (wCell cc0_scratch4 0 (by decide))) 0 ∗ semVal ((c : Thread nD τ), .dma (wCell cc0_scratch4 1 (by decide))) 0)

/-- The weights and their buffer, to the two slots -/
theorem weights_split (c : Dev nD) :
    iprop((∃ f : Buf (Elt F) ((c : Thread nD τ).loc cc0_scratch1), ((c : Thread nD τ).loc cc0_scratch1) ↦{fullShare} f)
        ∗ (((c : Thread nD τ).loc main_arg1) ↦{fullShare} wIn m c) ∗ wZero c)
      ⊢ iprop(wIdle m c 0 (by decide) ∗ wIdle m c 1 (by decide)) := by
  unfold wIdle wZero
  iintro ⟨⟨%f, Hb⟩, Hw, Z0, Z1⟩
  ihave Hb := (pointsTo_split_subset (Finset.subset_univ (slotR 0 (by decide)).set)).1 $$ Hb
  icases Hb with ⟨B0, B1⟩
  ihave Hw := (pointsTo_share (PosShare.mem_left_op_right fullShare)).1 $$ Hw
  icases Hw with ⟨W0, W1⟩
  isplitl [B0 W0 Z0]
  · isplitl [B0]; · iexists f; iexact B0
    isplitl [W0]; · iexact W0
    iexact Z0
  isplitl [B1]
  · iexists f
    rw [show (slotR 1 (by decide)).set = Finset.univ \ (slotR 0 (by decide)).set from Finset.ext fun i => by
      rw [Finset.mem_sdiff, mem_slot, mem_slot]
      have : (i 0).val < 2 := (i 0).isLt
      exact ⟨fun h => ⟨Finset.mem_univ _, by omega⟩, fun h => by omega⟩]
    iexact B1
  isplitl [W1]; · iexact W1
  iexact Z1
/-- and back. -/
theorem weights_join (c : Dev nD) :
    iprop(wIdle m c 0 (by decide) ∗ wIdle m c 1 (by decide))
      ⊢ iprop((∃ f : Buf (Elt F) ((c : Thread nD τ).loc cc0_scratch1), ((c : Thread nD τ).loc cc0_scratch1) ↦{fullShare} f)
        ∗ (((c : Thread nD τ).loc main_arg1) ↦{fullShare} wIn m c) ∗ wZero c) := by
  unfold wIdle wZero
  iintro ⟨⟨⟨%f, B0⟩, W0, Z0⟩, ⟨%g, B1⟩, W1, Z1⟩
  isplitl [B0 B1]
  · ihave B := (pointsTo_join (ℓ := (c : Thread nD τ).loc cc0_scratch1) slot_disjoint) $$ [B0 B1]
    · isplitl [B0]; · iexact B0
      iexact B1
    rw [show (slotR 0 (by decide)).set ∪ (slotR 1 (by decide)).set = Finset.univ from Finset.eq_univ_of_forall fun i => by
      rw [Finset.mem_union, mem_slot, mem_slot]
      have : (i 0).val < 2 := (i 0).isLt
      omega]
    iexists _; iexact B
  isplitl [W0 W1]
  · iapply (pointsTo_share (PosShare.mem_left_op_right fullShare)).2
    isplitl [W0]; · iexact W0
    iexact W1
  isplitl [Z0]; · iexact Z0
  iexact Z1

/-! ## The whole body -/

/-- What device `c` starts its body from, -/
def bodyStart (K : Dev nD × CK → ℕ) (c : Dev nD) : sProp 𝕄 :=
  iprop(records m K ∗ levAts L lv ∗ rights c ∗ wZero c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (((c : Thread nD τ).loc main_arg1) ↦{fullShare} wIn m c)
    ∗ ow c (O₀ c)
    ∗ (((c : Thread nD τ).loc cc0_stg0_0) ↦{fullShare} xIn m c)
    ∗ (∃ f : Buf (Elt F) ((c : Thread nD τ).loc cc0_stg1_0), ((c : Thread nD τ).loc cc0_stg1_0) ↦{fullShare} f))
/-- what it has besides the result, the rows and the weights when it ends: every cell at zero and its buffers. -/
def bodyRest (c : Dev nD) : sProp 𝕄 :=
  iprop(semVal (barCell c) 0 ∗ wZero c ∗ (bigSep Finset.univ fun t : Fin 8 => semVal (sendCell c t) 0) ∗ (bigSep Finset.univ fun p : Fin 8 => semVal (recvCell c p) 0)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- All of it. -/
def bodyEnd (c : Dev nD) : sProp 𝕄 :=
  iprop(bodyRest c ∗ (((c : Thread nD τ).loc main_arg1) ↦{fullShare} wIn m c) ∗ ow c 0
    ∗ (((c : Thread nD τ).loc cc0_stg0_0) ↦{fullShare} xIn m c)
    ∗ (((c : Thread nD τ).loc cc0_stg1_0) ↦{fullShare} outAt m c))

/-- The result, known everywhere, is the final one. -/
theorem outPts_full (c : Dev nD) {S : S4096x1024.Idx → Prop} (h : ∀ i, S i) :
    outPts m c S ⊢ (((c : Thread nD τ).loc cc0_stg1_0) ↦{fullShare} outAt m c : sProp 𝕄) := by
  unfold outPts
  iintro ⟨%f, %hf, H⟩
  have : f = outAt m c := funext fun i => hf i (h i)
  subst this
  iexact H

set_option maxHeartbeats 4000000 in
/-- The body of device `c`. -/
theorem body_wp (K : Dev nD × CK → ℕ) (c : Dev nD) (Q : PUnit → sProp 𝕄) :
    iprop(bodyStart m K c ∗ (bodyEnd m c -∗ Q ⟨⟩))
      ⊢ wpc c (body (Memref.whole cc0_stg0_0) (Memref.whole main_arg1) (Memref.whole cc0_stg1_0) (Memref.whole cc0_scratch0) (Memref.whole cc0_scratch1)
          (Memref.whole cc0_scratch2) (Memref.whole cc0_scratch3) cc0_scratch4 cc0_scratch5 cc0_scratch6
          (Memref.isWhole_whole _) (Memref.isWhole_whole _) (Memref.isWhole_whole _)) Q := by
  unfold bodyStart rights body front
  simp only [wpc, wp_bind]
  simp only [Prog.lift, wp_deviceId]
  iintro ⟨⟨#HR, #Hlev, ⟨Hbar, Hat, Hv, Htb, Hts⟩, Hz, S0, S1, S2, S3, Hw, HO, Hx, ⟨%fo, Hout⟩⟩, Hk⟩
  ihave S2 := (scratch2_split m c) $$ S2
  ihave S3 := (scratch3_split (F := F) c) $$ S3
  ihave Hwts := (weights_split m c) $$ [S1 Hw Hz]
  · isplitl [S1]; · iexact S1
    isplitl [Hw]; · iexact Hw
    iexact Hz
  icases Hwts with ⟨W0, W1⟩
  rw [wp_ret]; imodintro
  iapply (barrier_wp m K c)
  isplitr; · iexact HR
  isplitr; · iexact Hlev
  isplitl [Hbar]; · iexact Hbar
  isplitl [Htb]; · iexact Htb
  isplitl [S3]; · iexact S3
  isplitl [HO]; · iexact HO
  iintro ⟨Zb, Hkeep, Hp, HO⟩
  iapply (castRows_wp m c)
  isplitl [Hx]; · iexact Hx
  isplitl [S0]; · iexact S0
  iintro ⟨Hx, Hxb⟩
  iapply (blockOwn_wp m c)
  isplitl [W0]; · iexact W0
  isplitl [W1]; · iexact W1
  isplitl [Hxb]; · iexact Hxb
  isplitl [HO]; · iexact HO
  isplitr; · iexact Hlev
  isplitl [Hout]
  · unfold outPts
    iexists fo
    isplitr
    · ipureintro; exact fun i hi => hi.elim
    iexact Hout
  iintro ⟨W0, W1, Hxb, HO, Hout⟩
  ihave S2 := (Entails.of_eq (bigSep_zero_rest (fun t : Fin 8 => yPts m c t fun _ => False))) $$ S2
  icases S2 with ⟨Y0, S2⟩
  ihave S2 := (Entails.of_eq (bigSep_rest7 (fun t : Fin 8 => yPts m c t fun _ => False))) $$ S2
  icases S2 with ⟨Y1, Y2, Y3, Y4, Y5, Y6, Y7⟩
  ihave Hts := (Entails.of_eq (bigSep_fin8 (fun t : Fin 8 => (sendToks c t : sProp 𝕄)))) $$ Hts
  icases Hts with ⟨-, T1, T2, T3, T4, T5, T6, T7⟩
  ihave Hp := (Entails.of_eq (bigSep_fin8 (fun t : Fin 8 => (barPay c (pls c t) : sProp 𝕄)))) $$ Hp
  icases Hp with ⟨-, P1, P2, P3, P4, P5, P6, P7⟩
  iapply (blockOut_wp m K c 1 2 (by decide) _ (dev9_eq c) 6 rfl)
  isplitr; · iexact HR
  isplitl [W0]; · iexact W0
  isplitl [W1]; · iexact W1
  isplitl [Hxb]; · iexact Hxb
  isplitl [HO]; · iexact HO
  isplitr; · iexact Hlev
  isplitl [Y1]; · iexact Y1
  isplitl [T1]; · iexact T1
  isplitl [P1]; · iexact P1
  iintro ⟨W0, W1, Hxb, HO, C1⟩
  iapply (blockOut_wp m K c 2 3 (by decide) _ (dev10_eq c) 5 rfl)
  isplitr; · iexact HR
  isplitl [W0]; · iexact W0
  isplitl [W1]; · iexact W1
  isplitl [Hxb]; · iexact Hxb
  isplitl [HO]; · iexact HO
  isplitr; · iexact Hlev
  isplitl [Y2]; · iexact Y2
  isplitl [T2]; · iexact T2
  isplitl [P2]; · iexact P2
  iintro ⟨W0, W1, Hxb, HO, C2⟩
  iapply (blockOut_wp m K c 3 4 (by decide) _ (dev11_eq c) 4 rfl)
  isplitr; · iexact HR
  isplitl [W0]; · iexact W0
  isplitl [W1]; · iexact W1
  isplitl [Hxb]; · iexact Hxb
  isplitl [HO]; · iexact HO
  isplitr; · iexact Hlev
  isplitl [Y3]; · iexact Y3
  isplitl [T3]; · iexact T3
  isplitl [P3]; · iexact P3
  iintro ⟨W0, W1, Hxb, HO, C3⟩
  iapply (blockOut_wp m K c 4 5 (by decide) _ (dev12_eq c) 3 rfl)
  isplitr; · iexact HR
  isplitl [W0]; · iexact W0
  isplitl [W1]; · iexact W1
  isplitl [Hxb]; · iexact Hxb
  isplitl [HO]; · iexact HO
  isplitr; · iexact Hlev
  isplitl [Y4]; · iexact Y4
  isplitl [T4]; · iexact T4
  isplitl [P4]; · iexact P4
  iintro ⟨W0, W1, Hxb, HO, C4⟩
  iapply (blockOut_wp m K c 5 6 (by decide) _ (dev13_eq c) 2 rfl)
  isplitr; · iexact HR
  isplitl [W0]; · iexact W0
  isplitl [W1]; · iexact W1
  isplitl [Hxb]; · iexact Hxb
  isplitl [HO]; · iexact HO
  isplitr; · iexact Hlev
  isplitl [Y5]; · iexact Y5
  isplitl [T5]; · iexact T5
  isplitl [P5]; · iexact P5
  iintro ⟨W0, W1, Hxb, HO, C5⟩
  iapply (blockOut_wp m K c 6 7 (by decide) _ (dev14_eq c) 1 rfl)
  isplitr; · iexact HR
  isplitl [W0]; · iexact W0
  isplitl [W1]; · iexact W1
  isplitl [Hxb]; · iexact Hxb
  isplitl [HO]; · iexact HO
  isplitr; · iexact Hlev
  isplitl [Y6]; · iexact Y6
  isplitl [T6]; · iexact T6
  isplitl [P6]; · iexact P6
  iintro ⟨W0, W1, Hxb, HO, C6⟩
  iapply (blockHead_wp m c 7 1)
  isplitl [W0]; · iexact W0
  isplitl [W1]; · iexact W1
  isplitl [Hxb]; · iexact Hxb
  isplitl [HO]; · iexact HO
  isplitr; · iexact Hlev
  isplitl [Y7]; · iexact Y7
  iintro ⟨W0, W1, Hxb, HO, Y7⟩
  iapply (blockTail_wp m K c 7 (by decide) _ (dev15_eq c) 0 rfl)
  isplitr; · iexact HR
  isplitl [W1]; · iexact W1
  isplitl [Hxb]; · iexact Hxb
  isplitl [HO]; · iexact HO
  isplitr; · iexact Hlev
  isplitl [Y7]; · iexact Y7
  isplitl [T7]; · iexact T7
  isplitl [P7]; · iexact P7
  iintro ⟨W1, Hxb, HO, C7⟩
  ihave Hv := (Entails.of_eq (bigSep_zero_rest (fun p : Fin 8 => (recvRight c p : sProp 𝕄)))) $$ Hv
  icases Hv with ⟨V0, Hv⟩
  ihave Hv := (Entails.of_eq (bigSep_rest7 (fun p : Fin 8 => (recvRight c p : sProp 𝕄)))) $$ Hv
  iapply (recv_wp m K c 0 _ _ rfl)
  isplitr; · iexact HR
  isplitl [V0]; · iexact V0
  isplitl [HO]; · iexact HO
  isplitl [Hout]; · iexact Hout
  iintro ⟨D0, HO, Hout⟩
  simp only [wpc, Prog.pure_eq_ret]
  rw [wp_ret]; imodintro
  rw [wp_ret]; imodintro
  dsimp only
  iapply (recvs_wp m K c)
  isplitr; · iexact HR
  isplitl [Hv]; · iexact Hv
  isplitl [HO]; · iexact HO
  isplitl [Hout]; · iexact Hout
  iintro ⟨HD, HO, Hout⟩
  ihave HD := (Entails.of_eq (bigSep_rest7 (fun p : Fin 8 => recvDone m c p)).symm) $$ HD
  ihave Hat := (Entails.of_eq (bigSep_zero_rest (fun t : Fin 8 => (atPos (ER F) (sendCell c t) 0 ∅ 0 : sProp 𝕄)))) $$ Hat
  icases Hat with ⟨A0, Hat⟩
  ihave #Hs := (records_send m K c 0) $$ HR
  icases Hs with ⟨#HI, -⟩
  imod (Rounds.cell_close (ER F) (sched m) (g := sendCell c 0) (Set.mem_univ (K (c, .inr (.inl 0)))) (fun h => h) (R := 0)
      (fun r _ => duties_send_zero m c r)) $$ [A0] with Z0
  · isplitr; · iexact HI
    iexact A0
  iapply (sendEnds_wp m K c)
  isplitr; · iexact HR
  isplitl [Hat C1 C2 C3 C4 C5 C6 C7]
  · rw [bigSep_sep']
    isplitl [Hat]; · iexact Hat
    rw [bigSep_rest7]
    isplitl [C1]; · iexact C1
    isplitl [C2]; · iexact C2
    isplitl [C3]; · iexact C3
    isplitl [C4]; · iexact C4
    isplitl [C5]; · iexact C5
    isplitl [C6]; · iexact C6
    iexact C7
  isplitl [HO]; · iexact HO
  iintro ⟨HS, HO⟩
  ihave HS := (Entails.of_eq (bigSep_sep' _ (fun t : Fin 8 => sendPay m c t) (fun t => (semVal (sendCell c t) 0 : sProp 𝕄)))) $$ HS
  icases HS with ⟨HS, HZ⟩
  ihave HD := (Entails.of_eq (bigSep_zero_rest (fun p : Fin 8 => recvDone m c p)).symm) $$ [D0 HD]
  · isplitl [D0]; · iexact D0
    iexact HD
  unfold recvDone
  ihave HD := (Entails.of_eq (bigSep_sep' (Finset.univ : Finset (Fin 8)) (fun p => (semVal (recvCell c p) 0 : sProp 𝕄)) (fun p => if p = c then iprop(emp) else recvPay m c p))) $$ HD
  icases HD with ⟨HZr, HD⟩
  ihave Hw := (weights_join m c) $$ [W0 W1]
  · isplitl [W0]; · iexact W0
    iexact W1
  icases Hw with ⟨S1, Hw, Hz⟩
  iapply Hk
  unfold bodyEnd bodyRest
  isplitr [Hw HO Hx Hout]
  · isplitl [Zb]; · iexact Zb
    isplitl [Hz]; · iexact Hz
    isplitl [Z0 HZ]
    · rw [bigSep_zero_rest]
      isplitl [Z0]; · iexact Z0
      iexact HZ
    isplitl [HZr]; · iexact HZr
    isplitl [Hxb]
    · unfold xbPts; iexists (xb m c); iexact Hxb
    isplitl [S1]; · iexact S1
    isplitl [Y0 HS]
    · iapply (sent_join m c)
      isplitl [Y0]; · iexact Y0
      iexact HS
    iapply (arrived_join m c)
    isplitl [Hkeep]
    · iapply (keep_self (F := F) c); iexact Hkeep
    iexact HD
  isplitl [Hw]; · iexact Hw
  isplitl [HO]; · iexact HO
  isplitl [Hx]; · iexact Hx
  iapply (outPts_full m c (fun i => ?_)) $$ Hout
  show ((i 0).val / 512 = c.val ∨ (c.val ≠ 0 ∧ (i 0).val / 512 = 0)) ∨ (c.val ≠ (i 0).val / 512 ∧ 1 ≤ (i 0).val / 512)
  omega

end Body

end Cert.KernelIdeal.Proof
-- ==== Proof.KernelIdeal.Deal.lean ====
/-
# What the launch deals

The launch starts from the ghost state of every cell and from every counter at zero. Each barrier, send and receive
cell becomes an invariant that all devices know. Each device keeps its positions, gets the duties it will pay, and
gets as credit what the others owe it: eight units at its barrier, a block on each receive cell of another device.
-/
module

public import proofs.«01_k».proof.Proof.KernelIdeal.Body

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The credit at launch -/

section Credit

theorem bar_inj {a b : Dev nD} (h : barCell a = barCell b) : a = b := congrArg (fun g : GSem nD τ sig => g.1.1) h
theorem recv_inj {a b : Dev nD} {p q : Fin 8} (h : recvCell a p = recvCell b q) : a = b ∧ p = q :=
  ⟨congrArg (fun g : GSem nD τ sig => g.1.1) h,
    Sum.inr_injective (Sum.inr_injective (Option.some.inj ((dec_recv p).symm.trans ((congrArg (fun g : GSem nD τ sig => dec g.2) h).trans (dec_recv q)))))⟩
theorem bar_ne_recv (a b : Dev nD) (p : Fin 8) : barCell a ≠ recvCell b p := fun h => by
  have h' := (dec_bar.symm.trans ((congrArg (fun g : GSem nD τ sig => dec g.2) h).trans (dec_recv p)))
  cases h'

/-- Sends owe no barrier anything. -/
theorem owedSends_bar (d c : Dev nD) (n : ℕ) : owedSends d n (barCell c) () = 0 := by
  rcases Nat.eq_zero_or_pos (owedSends d n (barCell c) ()) with h | h
  · exact h
  · obtain ⟨t, ht⟩ := owedSends_pos h
    exact absurd ht (bar_ne_recv _ _ _)
/-- The last `n` signals owe a unit to the barriers of the last `n` devices. -/
theorem owedAll_bar (d c : Dev nD) (n : ℕ) (hn : n ≤ 8) : owedAll d n (barCell c) () = if 8 ≤ n + c.val then 1 else 0 := by
  have hc : c.val < 8 := c.isLt
  induction n with
  | zero => rw [if_neg (by omega)]; exact owedSends_bar d c 7
  | succ n ih =>
    rw [owedAll, Pi.add_apply, Finsupp.add_apply, tallyAt_apply, ih (by omega)]
    by_cases h : c.val = 7 - n
    · rw [if_neg (by omega), if_pos ⟨congrArg barCell (Fin.ext h), rfl⟩, if_pos (by omega)]
    · have h' : ¬(barCell c = barCell (⟨7 - n, by show 7 - n < 8; omega⟩ : Dev nD) ∧ () = ()) := fun h' => h (congrArg Fin.val (bar_inj h'.1))
      rw [if_neg h']
      by_cases h2 : 8 ≤ n + c.val
      · rw [if_pos h2, if_pos (by omega)]
      · rw [if_neg h2, if_neg (by omega)]

/-- How often the last `n` sends of device `d` go to block `p` of device `c`. -/
def sendsTo (d c : Dev nD) (p : Fin 8) : ℕ → ℕ
  | 0 => 0
  | n + 1 => sendsTo d c p n + if c = pls d ⟨7 - n, by omega⟩ ∧ p = d then 1 else 0
theorem owedSends_recv (d c : Dev nD) (p : Fin 8) (n : ℕ) : owedSends d n (recvCell c p) () = sendsTo d c p n * N := by
  induction n with
  | zero => exact (Nat.zero_mul _).symm
  | succ n ih =>
    rw [owedSends, Pi.add_apply, Finsupp.add_apply, tallyAt_apply, ih, sendsTo, Nat.add_mul]
    by_cases h : c = pls d ⟨7 - n, by omega⟩ ∧ p = d
    · rw [if_pos h, if_pos ⟨by rw [h.1, h.2], rfl⟩, Nat.one_mul]
    · rw [if_neg h, if_neg fun h' => h (recv_inj h'.1), Nat.zero_mul]
/-- Device `d` sends to another device once, into the block that bears its own number. -/
theorem sendsTo_all (d c : Dev nD) (p : Fin 8) : sendsTo d c p 7 = if d = p ∧ p ≠ c then 1 else 0 := by
  revert d c p; decide +kernel
/-- Signals owe no receive cell anything. -/
theorem owedAll_recv (d c : Dev nD) (p : Fin 8) (n : ℕ) : owedAll d n (recvCell c p) () = owedSends d 7 (recvCell c p) () := by
  induction n with
  | zero => rfl
  | succ n ih =>
    rw [owedAll, Pi.add_apply, Finsupp.add_apply, tallyAt_apply, if_neg fun h => bar_ne_recv _ _ _ h.1.symm, ih, Nat.add_zero]

/-- All devices together owe a barrier eight units; -/
theorem launch_bar (c : Dev nD) :
    tallyOn (barCell c) (launchCredit (Pipeline.owing O₀) 0 (barCell c)) = (tallyAt (barCell c) () 8 : CellTallies nD τ sig Unit) := by
  unfold tallyAt
  refine congrArg _ (Finsupp.ext fun u => ?_)
  cases u
  rw [Pipeline.launchCredit_owing, Finsupp.single_eq_same]
  show ∑ d : Dev nD, owedAll d 8 (barCell c) () = 8
  rw [Finset.sum_congr rfl fun d _ => (owedAll_bar d c 8 (Nat.le_refl 8)).trans (if_pos (Nat.le_add_right _ _)),
    Finset.sum_const, Finset.card_univ, Fintype.card_fin, smul_eq_mul]
  rfl
/-- and a receive cell a block, if it is for another device. -/
theorem launch_recv (c : Dev nD) (p : Fin 8) :
    tallyOn (recvCell c p) (launchCredit (Pipeline.owing O₀) 0 (recvCell c p))
      = (tallyAt (recvCell c p) () (if p = c then 0 else N) : CellTallies nD τ sig Unit) := by
  unfold tallyAt
  refine congrArg _ (Finsupp.ext fun u => ?_)
  cases u
  rw [Pipeline.launchCredit_owing, Finsupp.single_eq_same]
  show ∑ d : Dev nD, owedAll d 8 (recvCell c p) () = if p = c then 0 else N
  rw [Finset.sum_congr rfl fun d _ => (owedAll_recv d c p 8).trans ((owedSends_recv d c p 7).trans (congrArg (· * N) (sendsTo_all d c p))),
    ← Finset.sum_mul]
  have h : ∀ c p : Fin 8, (∑ d : Fin 8, if d = p ∧ p ≠ c then 1 else 0) = if p = c then 0 else 1 := by decide +kernel
  rw [show (∑ d : Dev nD, if d = p ∧ p ≠ c then 1 else 0) = if p = c then 0 else 1 from h c p]
  by_cases hp : p = c
  · rw [if_pos hp, if_pos hp, Nat.zero_mul]
  · rw [if_neg hp, if_neg hp, Nat.one_mul]

/-- Something for each cell of a device: for its barrier, for its send cells, for its receive cells. -/
theorem cells_split (Φ : CK → sProp 𝕄) : bigSep Finset.univ Φ
    = iprop(Φ (.inl ()) ∗ (bigSep Finset.univ fun t : Fin 8 => Φ (.inr (.inl t))) ∗ bigSep Finset.univ fun p : Fin 8 => Φ (.inr (.inr p))) := by
  rw [BI.bigSep_univ_sum, BI.bigSep_univ_sum, Finset.univ_unique, bigSep_singleton]
  rfl
theorem sep_drop (A B C : sProp 𝕄) : iprop(A ∗ B ∗ C) ⊢ iprop(A ∗ C) := sep_mono_right sep_elim_right

/-- Device `c`'s credit at launch. -/
def credits (c : Dev nD) : sProp 𝕄 :=
  iprop(cred (tallyAt (barCell c) () 8) ∗ bigSep Finset.univ fun p : Fin 8 => cred (tallyAt (recvCell c p) () (if p = c then 0 else N)))

theorem credits_intro (c : Dev nD) : (Pipeline.launchCred O₀ c : sProp 𝕄) ⊢ credits c := by
  unfold Pipeline.launchCred credits
  refine (BI.bigSep_subset (Finset.subset_univ (Finset.univ.map ⟨csem, csem_injective⟩))).trans ?_
  rw [BI.bigSep_map, cells_split]
  have h1 : ∀ p : Fin 8, (cred (tallyOn (recvCell c p) (launchCredit (Pipeline.owing O₀) 0 (recvCell c p))) : sProp 𝕄)
      = cred (tallyAt (recvCell c p) () (if p = c then 0 else N)) := fun p => congrArg cred (launch_recv c p)
  have h0 : (cred (tallyOn (barCell c) (launchCredit (Pipeline.owing O₀) 0 (barCell c))) : sProp 𝕄) = cred (tallyAt (barCell c) () 8) :=
    congrArg cred (launch_bar c)
  rw [← h0, bigSep_congr fun p _ => (h1 p).symm]
  exact sep_drop _ _ _

end Credit

/-! ## The cells and duties dealt -/

section Deal
variable (m : (ℓ : Loc nD τ sig) → Buf (Elt F) ℓ)

/-- All cells of the protocol. -/
def allCells : Finset (GSem nD τ sig) := Finset.univ.map ⟨kcell, kcell_injective⟩
/-- A duty's name: its cell, round 0, its number. -/
def tokOf (x : (Dev nD × CK) × Fin 8) : GSem nD τ sig × ℕ × Fin 8 := (kcell x.1, 0, x.2)
theorem tokOf_injective : Function.Injective tokOf := fun x y h =>
  Prod.ext (kcell_injective (congrArg Prod.fst h)) (congrArg (fun z : GSem nD τ sig × ℕ × Fin 8 => z.2.2) h)
/-- All duties. -/
def allToks : Finset (GSem nD τ sig × ℕ × Fin 8) := Finset.univ.map ⟨tokOf, tokOf_injective⟩

/-- The ghost state at launch. -/
def u₀ : UU := (initOf (Pipeline.cells cfgs cellOf_inj) (Pipeline.launchToks cfgs cellOf_inj), (initOf allCells allToks, 1))

/-- The duties on device `c`'s own cells. -/
def ownToks (c : Dev nD) : sProp 𝕄 :=
  bigSep Finset.univ fun k : CK => bigSep Finset.univ fun d : Fin 8 => dutyTok (ER F) (kcell (c, k)) 0 d
/-- Device `c`'s positions on its own cells. -/
def ownPos (c : Dev nD) : sProp 𝕄 := bigSep Finset.univ fun k : CK => atPos (ER F) (kcell (c, k)) 0 ∅ 0
/-- Device `c`'s part of the ghost state. -/
def dealt (c : Dev nD) : sProp 𝕄 :=
  iprop((bigSep Finset.univ fun k : CK => roundState (ER F) (sched m) (kcell (c, k)) 0)
    ∗ (bigSep Finset.univ fun k : CK => reached (ER F) (kcell (c, k)) 0) ∗ ownPos c ∗ ownToks c)

theorem deal : BI.own ((ER F) (initOf allCells allToks)) ⊢ (|==> bigSep Finset.univ (dealt m) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, BI.bigSep_univ_prod]; rfl
  have hT : bigSep allToks (fun x => (dutyTok (ER F) x.1 x.2.1 x.2.2 : sProp 𝕄)) = bigSep Finset.univ fun c : Dev nD => ownToks c := by
    unfold allToks; rw [BI.bigSep_map, BI.bigSep_univ_prod, BI.bigSep_univ_prod]; rfl
  iintro HX
  imod (Rounds.fund (ER F) (sched m) allCells allToks) $$ HX with ⟨Hst, Hr, Hat, Htok⟩
  imodintro
  ihave Hst' := (Entails.of_eq (hX fun g => roundState (ER F) (sched m) g 0)) $$ Hst
  ihave Hat' := (Entails.of_eq (hX fun g => atPos (ER F) g 0 ∅ 0)) $$ Hat
  ihave Hr' := (Entails.of_eq (hX fun g => reached (ER F) g 0)) $$ Hr
  ihave Htok' := (Entails.of_eq hT) $$ Htok
  unfold dealt ownPos
  simp only [bigSep_sep']
  isplitl [Hst']; · iexact Hst'
  isplitl [Hr']; · iexact Hr'
  isplitl [Hat']; · iexact Hat'
  iexact Htok'

/-! ## The cells' invariants -/

/-- The semaphores of the kernel's own: the two weight cells, the send cells, the receive cells. -/
def osem : Fin 2 ⊕ (Fin 8 ⊕ Fin 8) → SemLoc sig
  | .inl k => .dma (wCell cc0_scratch4 k.val k.isLt)
  | .inr x => csem (.inr x)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(wZero c ∗ (bigSep Finset.univ fun t : Fin 8 => semVal (sendCell c t) 0) ∗ bigSep Finset.univ fun p : Fin 8 => semVal (recvCell c p) 0) := by
  unfold Pipeline.ownSems0 wZero
  rw [BI.bigSep_univ_sum, BI.bigSep_univ_sum, bigSep_univ_eq_bigSepL [0, 1] (by decide) (by decide)]
  rfl
/-- The runtime's barrier is the one semaphore that is not the launch's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    (bigSep Finset.univ fun k : CK => semVal (kcell (c, k)) 0 : sProp 𝕄)
      = iprop(semVal (barCell c) 0 ∗ (bigSep Finset.univ fun t : Fin 8 => semVal (sendCell c t) 0) ∗ bigSep Finset.univ fun p : Fin 8 => semVal (recvCell c p) 0) := by
  rw [cells_split]; rfl

/-- What a device has once its cells are invariants. -/
def opened (c : Dev nD) : sProp 𝕄 :=
  iprop((bigSep Finset.univ fun k : CK => iprop(∃ κ : ℕ, cellInv (ER F) (sched m) κ (kcell (c, k))))
    ∗ (bigSep Finset.univ fun k : CK => reached (ER F) (kcell (c, k)) 0) ∗ ownPos c ∗ ownToks c ∗ wZero c)

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  rw [ownSems0_eq, unscopedSems0_eq]
  unfold dealt opened
  iintro ⟨⟨Hz, Hs, Hv⟩, Hb, Hst, Hr, Hat, Htok⟩
  ihave Hv := (Entails.of_eq (sems_eq (F := F) c).symm) $$ [Hs Hv Hb]
  · isplitl [Hb]; · iexact Hb
    isplitl [Hs] <;> iassumption
  imod (show iprop((bigSep Finset.univ fun k : CK => semVal (kcell (c, k)) 0) ∗ bigSep Finset.univ fun k : CK => roundState (ER F) (sched m) (kcell (c, k)) 0)
      ⊢ (|={Set.univ}=> bigSep Finset.univ fun k : CK => iprop(∃ κ : ℕ, cellInv (ER F) (sched m) κ (kcell (c, k))) : sProp 𝕄) from by
        rw [← bigSep_sep']
        exact (bigSep_mono fun k _ => (Rounds.body_intro (ER F) (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hz

/-! ## The duties passed to those who pay them -/

/-- The duties device `c` pays. -/
def payToks (c : Dev nD) : sProp 𝕄 :=
  iprop((bigSep Finset.univ fun d : Fin 8 => dutyTok (ER F) (barCell d) 0 c) ∗ (bigSep Finset.univ fun t : Fin 8 => sendToks c t))

/-- Device `p` and its block for the device `t` places on, against device `c` and its arrival block `p`. -/
def arrivalE : Dev nD × Fin 8 ≃ Dev nD × Fin 8 where
  toFun x := (pls x.1 x.2, x.1)
  invFun y := (y.2, mns y.1 y.2)
  left_inv x := Prod.ext rfl (mns_pls x.1 x.2)
  right_inv y := Prod.ext (pls_mns y.1 y.2) rfl

theorem ownToks_keep (c : Dev nD) : (ownToks c : sProp 𝕄)
    ⊢ iprop((bigSep Finset.univ fun d : Fin 8 => dutyTok (ER F) (barCell c) 0 d) ∗ (bigSep Finset.univ fun t : Fin 8 => dutyTok (ER F) (sendCell c t) 0 0)
      ∗ bigSep Finset.univ fun p : Fin 8 => dutyTok (ER F) (recvCell c p) 0 0) := by
  unfold ownToks
  rw [cells_split]
  exact BI.sep_mono (BI.Entails.refl _) (BI.sep_mono (bigSep_mono fun t _ => bigSep_elim (Finset.mem_univ (0 : Fin 8)))
    (bigSep_mono fun p _ => bigSep_elim (Finset.mem_univ (0 : Fin 8))))

/-- Pairs of devices, counted either way round. -/
theorem bigSep_swap (Φ : Dev nD → Fin 8 → sProp 𝕄) :
    (bigSep Finset.univ fun c : Dev nD => bigSep Finset.univ fun d : Fin 8 => Φ c d)
      = bigSep Finset.univ fun d : Fin 8 => bigSep Finset.univ fun c : Dev nD => Φ c d := by
  rw [← BI.bigSep_univ_prod (fun x : Dev nD × Fin 8 => Φ x.1 x.2), BI.bigSep_univ_equiv (Equiv.prodComm (Fin 8) (Dev nD)), BI.bigSep_univ_prod]
  rfl

theorem toks_around : (bigSep Finset.univ fun c : Dev nD => (ownToks c : sProp 𝕄)) ⊢ bigSep Finset.univ fun c : Dev nD => payToks c := by
  refine (bigSep_mono fun c _ => ownToks_keep (F := F) c).trans ?_
  unfold payToks sendToks
  simp only [bigSep_sep']
  rw [bigSep_swap fun (c : Dev nD) (d : Fin 8) => (dutyTok (ER F) (barCell c) 0 d : sProp 𝕄),
    ← BI.bigSep_univ_prod (fun x : Dev nD × Fin 8 => (dutyTok (ER F) (recvCell x.1 x.2) 0 0 : sProp 𝕄)),
    BI.bigSep_univ_equiv arrivalE, BI.bigSep_univ_prod]
  exact BI.Entails.refl _

/-! ## What each device starts from -/

/-- Device `c`'s own part of the protocol, without the credit. -/
def held (c : Dev nD) : sProp 𝕄 := iprop((ownPos c ∗ payToks c) ∗ wZero c)
/-- What the launch gives device `c`. -/
def given (c : Dev nD) : sProp 𝕄 := iprop((∃ K, records m K) ∗ held c)

theorem rights_intro (c : Dev nD) : iprop((ownPos c ∗ payToks c) ∗ credits c) ⊢ (rights c : sProp 𝕄) := by
  unfold ownPos payToks credits rights recvRight
  rw [cells_split]
  simp only [bigSep_sep']
  iintro ⟨⟨⟨HB, HS, HV⟩, Ht, Hu⟩, CB, CV⟩
  isplitl [HB CB]
  · isplitl [HB]; · iexact HB
    iexact CB
  isplitl [HS]; · iexact HS
  isplitl [HV CV]
  · isplitl [HV]; · iexact HV
    iexact CV
  isplitl [Ht]; · iexact Ht
  iexact Hu

theorem given_intro (K : Dev nD × CK → ℕ) (c : Dev nD) : iprop(records m K ∗ held c) ⊢ given m c := by
  unfold given
  iintro ⟨HR, HH⟩
  isplitl [HR]; · iexists K; iexact HR
  iexact HH

theorem regroup : (bigSep Finset.univ fun c : Dev nD => (opened m c : sProp 𝕄)) ⊢ bigSep Finset.univ (given m) := by
  unfold opened
  rw [bigSep_sep', bigSep_sep', bigSep_sep', bigSep_sep',
    ← BI.bigSep_univ_prod (fun ck : Dev nD × CK => iprop(∃ κ : ℕ, cellInv (ER F) (sched m) κ (kcell ck))),
    ← BI.bigSep_univ_prod (fun ck : Dev nD × CK => (reached (ER F) (kcell ck) 0 : sProp 𝕄))]
  iintro ⟨HI, #HR, Hat, Htok, Hz⟩
  ihave HK := (BI.bigSep_exists_pi Finset.univ (fun (ck : Dev nD × CK) (κ : ℕ) => (cellInv (ER F) (sched m) κ (kcell ck) : sProp 𝕄))) $$ HI
  icases HK with ⟨%K, #HI⟩
  ihave Htk := (toks_around (F := F)) $$ Htok
  iapply (BI.bigSep_with_persistent (R := records m K) fun c _ => given_intro m K c)
  isplitr
  · unfold records
    isplitl; · iexact HI
    iexact HR
  · unfold held
    rw [bigSep_sep', bigSep_sep']
    isplitr [Hz]
    · isplitl [Hat]; · iexact Hat
      iexact Htk
    iexact Hz

/-- Every device's counters at zero and its part of the ghost state become what the launch gives it. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

end Deal

end Cert.KernelIdeal.Proof
-- ==== Proof.KernelIdeal.Launch.lean ====
/-
# The launch

The body of every device, put under the launch: the rows of `x` are staged in, the body runs, the result is staged out.
Every run ends, with each device's part of the result at `outAt`, the arguments as they were and every counter at zero.
-/
module

public import proofs.«01_k».proof.Proof.KernelIdeal.Deal
public import proofs.«01_k».proof.Proof.Gen.KernelIdeal.Points
public import Idealize.ShloMosaic.Lib.Pipeline.CollectiveSegs
public import Idealize.ShloMosaic.Lib.Quiescent

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What passes through the region -/

/-- What device `c` brings to its body, besides its buffers. -/
def start (c : Dev nD) : sProp 𝕄 :=
  iprop((∃ K, records m K) ∗ levAts L lv ∗ rights c ∗ wZero c ∗ (((c : Thread nD τ).loc main_arg1) ↦{fullShare} wIn m c))
/-- With its buffers. -/
def before (c : Dev nD) : sProp 𝕄 := iprop(start m c ∗ Pipeline.scopedRest cfg0.spec c)
/-- What it has afterwards. -/
def afterwards (c : Dev nD) : sProp 𝕄 := iprop(bodyRest c ∗ (((c : Thread nD τ).loc main_arg1) ↦{fullShare} wIn m c))

/-- The region's data: the arrays as they are at launch, the rows staged in, the result staged out. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => outAt m c
  Φ t := match t with
    | ⟨0, _⟩ => before m c
    | ⟨_ + 1, _⟩ => afterwards m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

/-- A whole buffer owned at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(before m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(afterwards m c ∗ (dats m 0 c).owesAt () t0_0.succ ∗ stg c cc0_stg0_0 (xIn m c) ∗ stg c cc0_stg1_0 (outAt m c))

/-- What the region gives the body is what the body starts from, -/
theorem pre_start (c : Dev nD) : bodyPre m c ⊢ iprop(∃ K, bodyStart m K c) := by
  unfold bodyPre before start
  rw [scopedRest0_eq]
  iintro ⟨⟨⟨⟨%K, HR⟩, HL, Hr, Hz, Hw⟩, S0, S1, S2, S3⟩, Ho, ⟨%d0, %g0, %hg0, Hx⟩, ⟨%d1, %g1, %hg1, Hout⟩⟩
  have hx : g0 = xIn m c := by rw [hg0]; unfold Dat.before; rw [if_pos (fetch0_0 t0_0)]; rfl
  subst hx
  unfold Dat.owesAt Pipeline.owesWithin
  icases Ho with ⟨%W, %hW, HO⟩
  iexists K
  unfold bodyStart
  isplitl [HR]; · iexact HR
  isplitl [HL]; · iexact HL
  isplitl [Hr]; · iexact Hr
  isplitl [Hz]; · iexact Hz
  isplitl [S0]; · iexact S0
  isplitl [S1]; · iexact S1
  isplitl [S2]; · iexact S2
  isplitl [S3]; · iexact S3
  isplitl [Hw]; · iexact Hw
  isplitl [HO]; · unfold ow; iexists W; iexact HO
  isplitl [Hx]; · iexact Hx
  iexists g1; iexact Hout
/-- and what the body ends with is what the region takes back. -/
theorem end_post (c : Dev nD) : bodyEnd m c ⊢ bodyPost m c := by
  unfold bodyEnd bodyPost afterwards ow
  iintro ⟨Hr, Hw, ⟨%W, HO⟩, Hx, Hout⟩
  isplitl [Hr Hw]
  · isplitl [Hr]; · iexact Hr
    iexact Hw
  isplitl [HO]
  · unfold Dat.owesAt Pipeline.owesWithin
    iexists W
    isplitr; · ipureintro; exact fun _ _ => Or.inl trivial
    iexact HO
  isplitl [Hx]
  · iexists _
    isplitr; · (ipureintro; rfl)
    iexact Hx
  iexists _
  isplitr; · (ipureintro; rfl)
  iexact Hout

set_option maxRecDepth 100000 in
/-- The body meets what the region asks of it. -/
theorem body_obligation (c : Dev nD) : BodyObligation (dats (F := F) m 0 c) (defs₀ (F := F)) 𝒱₀ () Set.univ := fun t => by
  rw [show t = t0_0 from fin_N0 t]
  rw [bigSep_W, bigSep_W]
  simp only [owns_whole_stg]
  show bodyPre m c ⊢ wpc c (cc0_body (Memref.whole cc0_stg0_0) (Memref.isWhole_whole _) (Memref.whole main_arg1) (Memref.isWhole_whole _)
      (Memref.whole cc0_stg1_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) cc0_scratch4 cc0_scratch5 cc0_scratch6)
    (fun _ => bodyPost m c)
  rw [body_eq]
  refine (pre_start m c).trans ?_
  iintro ⟨%K, H⟩
  iapply (body_wp m K c fun _ => bodyPost m c)
  isplitl [H]; · iexact H
  iintro HE
  iapply (end_post m c)
  iexact HE

/-! ## The side conditions -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none, unscopedRest0_eq]
  unfold given held start
  iintro ⟨Hw, HL, Hcr, -, HR, Hh, Hz⟩
  ihave Hc := (credits_intro (F := F) c) $$ Hcr
  ihave Hr := (rights_intro (F := F) c) $$ [Hh Hc]
  · isplitl [Hh]; · iexact Hh
    iexact Hc
  imodintro
  isplitl
  · isplitl [HR]; · iexact HR
    isplitl [HL]; · iexact HL
    isplitl [Hr]; · iexact Hr
    isplitl [Hz]; · iexact Hz
    iexact Hw
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iexact Hr

theorem afterwards_exit (c : Dev nD) :
    (dats m 0 c).Φ (Fin.last cfg0.N) ⊢ iprop((unscopedSems0 c ∗ (((c : Thread nD τ).loc main_arg1) ↦{fullShare} wIn m c))
      ∗ Pipeline.ownSems0 osem c ∗ Pipeline.scopedRest cfg0.spec c) := by
  rw [show (dats m 0 c).Φ (Fin.last cfg0.N) = afterwards m c from rfl, scopedRest0_eq, ownSems0_eq, unscopedSems0_eq]
  unfold afterwards bodyRest
  iintro ⟨⟨Zb, Zw, Zs, Zv, S0, S1, S2, S3⟩, Hw⟩
  isplitl [Zb Hw]
  · isplitl [Zb]; · iexact Zb
    iexact Hw
  isplitl [Zw Zs Zv]
  · isplitl [Zw]; · iexact Zw
    isplitl [Zs] <;> iassumption
  isplitl [S0]; · iexact S0
  isplitl [S1]; · iexact S1
  isplitl [S2]; · iexact S2
  iexact S3

/-- What is read of device `c` at the end besides its arrays: its counters at zero and its weights. -/
def readEnd (c : Dev nD) (s : MemSt nD τ sig (Elt F)) : Prop :=
  (∀ sm : SemLoc sig, sm.isScoped .tc = false → s.sem ((c.tc : Thread nD τ), sm) = 0) ∧ s.mem ((c : Thread nD τ).loc main_arg1) = wIn m c

theorem weights_read (c : Dev nD) (s' : Phys nD τ sig (Elt F)) :
    iprop((((c : Thread nD τ).loc main_arg1) ↦{fullShare} wIn m c) ∗ SI s')
      ⊢ (iprop(⌜s'.mem.mem ((c : Thread nD τ).loc main_arg1) = wIn m c⌝ ∗ SI s') : sProp 𝕄) := by
  have h := pointsTo_read_all (Ix := Unit) (Name := ℕ) (U := UU) (Lvl := ℕ) (Finset.univ : Finset Unit)
    (fun _ => (c : Thread nD τ).loc main_arg1) (fun _ => wIn m c) s'
  rw [Finset.univ_unique, bigSep_singleton] at h
  refine h.trans ?_
  iintro ⟨%h, H⟩
  isplitr
  · ipureintro; exact h () (Finset.mem_singleton_self _)
  · iexact H

theorem end_read (c : Dev nD) (s' : Phys nD τ sig (Elt F)) :
    iprop((unscopedSems0 c ∗ (((c : Thread nD τ).loc main_arg1) ↦{fullShare} wIn m c)) ∗ (emp : sProp 𝕄) ∗ SI s')
      ⊢ (|={Set.univ}=> iprop(⌜readEnd m c s'.mem⌝ ∗ SI s') : sProp 𝕄) := by
  iintro ⟨⟨Hu, Hw⟩, -, HSI⟩
  ihave H := (weights_read m c s') $$ [Hw HSI]
  · isplitl [Hw] <;> iassumption
  icases H with ⟨%hw, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, hw⟩
  · iexact HSI

/-! ## The run -/

/-- What the region's arrays hold at the end. -/
def finalA (c : Dev nD) (w : Fin cfg0.W) : Buf (Elt F) ((cfg0.win w).arr.view.loc (c : Thread nD τ)) := (dats m 0 c).arrAt w cfg0.N

set_option maxRecDepth 8000 in
/-- Every run of the program ends, with the arrays at their final contents, the weights unchanged and every counter zero. -/
theorem run_arrays : θ_run defs (onTc (τ := τ) (main (F := F))) ⟨m, fun _ => 0, ρ⟩
    (fun r => (∀ c : Dev nD, (∀ w : Fin cfg0.W, r.2.mem ((cfg0.win w).arr.view.loc (c : Thread nD τ)) = finalA m c w)
      ∧ r.2.mem ((c : Thread nD τ).loc main_arg1) = wIn m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) (EP F) defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (Entails.of_eq (show BI.own ((Emb.inl.trans embR) (initOf allCells allToks)) = BI.own ((ER F) (initOf allCells allToks)) from rfl)) $$ HX
      imod (deal m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_arg1) ↦{fullShare} wIn m c))) (Z := fun _ => iprop(emp))
    (hX := start_intro m ρ) (hin := before_intro m) (hout := afterwards_exit m)
    (QY := readEnd m) (hY := end_read m)
    (hQ := fun _ h hs => ⟨fun c => ⟨fun w => (h c).1 w, (h c).2.2.2⟩, sem_eq_zero hs fun c => (h c).2.2.1⟩)

/-- The rows' array is only read. -/
theorem finalA_x (c : Dev nD) : finalA m c (0 : Fin 2) = m ((c : Thread nD τ).loc main_arg0) := (dats (F := F) m 0 c).arrAt_in (0 : Fin 2) rfl _
/-- The result's array ends at `outAt`. -/
theorem finalA_out (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  rw [hr] at h
  exact h
/-- What is staged of the rows is the rows. -/
theorem xIn_eq (c : Dev nD) : xIn m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- Every run of the program ends with each device's part of the result at `outAt`, the arguments unchanged and every
    counter zero. -/
theorem run_main : θ_run defs (onTc (τ := τ) (main (F := F))) ⟨m, fun _ => 0, ρ⟩
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_out m c), ((h.1 c).1 (0 : Fin 2)).trans (finalA_x m c), (h.1 c).2⟩, h.2⟩)
    (run_arrays m ρ)

end Cert.KernelIdeal.Proof
-- ==== Proof.KernelIdeal.Values.lean ====
/-
# The kernel's result is the reference's

At the ideal values a cast between bf16 and f32 changes nothing, so every block the kernel computes or receives holds
gelu of the product of its rows and columns. Device `c`'s part of the result is then columns `1024 c` to
`1024 c + 1023` of the reference's result. The only difference in the formulas is the order in which a cube is
multiplied out.
-/
module

public import proofs.«01_k».proof.Proof.KernelIdeal.Contents
public import proofs.«01_k».proof.Proof.Gen.ReferenceIdeal.Run
public import Idealize.ShloMosaic.Lib.Layout
public import Idealize.ShloMosaic.Lib.MatmulPlain
public import Idealize.ShloMosaic.Lib.ValueLayout

@[expose] public section

noncomputable section

namespace Cert.KernelIdeal.Proof

open Cert.KernelIdeal Cert.KernelIdeal.Gen
open Idealize.ShloMosaic Idealize.ShloMosaic.TcCoe Idealize.ShloMosaic.ValueIdx
open scoped BigOperators

/-! ## The function of the two arrays -/

/-- The shape of the whole of `x`. -/
abbrev SX : Shape := Cert.ReferenceIdeal.S4096x4096

/-- The gelu of one entry, in its tanh form, with the constants the program writes. -/
def gelu (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * (y * y * y))))

/-- The product of the whole arrays, with the gelu applied to every entry. -/
def geluProduct (X : SX.Idx → EReal) (W : S4096x8192.Idx → EReal) : S4096x8192.Idx → EReal := fun i =>
  gelu (∑ k : Fin 4096, X (ix2 (i 0 : Fin 4096) k) * W (ix2 k (i 1 : Fin 8192)))

/-! ## The reference -/

/-- An index of the whole result is its two coordinates. -/
theorem eq_ix2 (i : S4096x8192.Idx) : i = ix2 (i 0 : Fin 4096) (i 1 : Fin 8192) := funext fun a =>
  match a with
  | ⟨0, _⟩ => rfl
  | ⟨1, _⟩ => rfl

/-- The reference's product, by entry. -/
theorem ref_dot (X : SX.Idx → EReal) (W : S4096x8192.Idx → EReal) (i : S4096x8192.Idx) :
    Host.dotGeneral (F := Ideal) (φ₁ := .f32) (φ₂ := .f32) Cert.ReferenceIdeal.dot_S4096x4096_S4096x8192_S4096x8192_1_0_0_1_n_n none X W i
      = ∑ k : Fin 4096, X (ix2 (i 0 : Fin 4096) k) * W (ix2 k (i 1 : Fin 8192)) := by
  have h := Ideal.matmul_plain_apply (M := 4096) (K := 4096) (N := 8192) (φ₁ := .f32) (φ₂ := .f32) none X W (fun _ => 0) (i 0) (i 1)
  rw [zero_add, Ideal.matmul_apply, zero_add] at h
  rw [← h]
  refine (Ideal.dotGeneral_apply (φ₁ := .f32) (φ₂ := .f32) _ none _ X W i).trans ?_
  rw [show i = ix2 (i 0 : Fin 4096) (i 1 : Fin 8192) from eq_ix2 i]
  rfl

/-- What the reference computes. -/
theorem ref_value (X : SX.Idx → EReal) (W : S4096x8192.Idx → EReal) (D : FVec Ideal S4096x8192 .f32)
    (hD : ∀ i : S4096x8192.Idx, D i = ∑ k : Fin 4096, X (ix2 (i 0 : Fin 4096) k) * W (ix2 k (i 1 : Fin 8192)))
    (hb : Cert.ReferenceIdeal.S_.BroadcastsInDim S4096x8192 ![]) :
    (mulf (mulf (broadcastInDim S4096x8192 ![] hb (constant (F := Ideal) Cert.ReferenceIdeal.S_ .f32 0x3F000000#32)) D)
      (addf (broadcastInDim S4096x8192 ![] hb (constant Cert.ReferenceIdeal.S_ .f32 0x3F800000#32))
        (Host.tanh (mulf (broadcastInDim S4096x8192 ![] hb (constant Cert.ReferenceIdeal.S_ .f32 0x3F4C422A#32))
          (addf D (mulf (broadcastInDim S4096x8192 ![] hb (constant Cert.ReferenceIdeal.S_ .f32 0x3D372713#32)) (mulf (mulf D D) D)))))) : FVec Ideal S4096x8192 .f32)
      = geluProduct X W := by
  funext i
  show gelu (D i) = gelu _
  rw [hD i]

/-! ## The kernel's tiles -/

/-- A tile the kernel computes, by entry. -/
theorem tile_apply (w : Vec Ideal S1x4096x256 .f32) (x : Vec Ideal S512x4096 .bf16) (r : Fin 512) (j : Fin 256) :
    k0_pay2 (F := Ideal) w x (ix2 r j) = gelu (∑ k : Fin 4096, x (ix2 r k) * w (ix3 (0 : Fin 1) k j)) := by
  have hw : ∀ k : Fin 4096, shapeCast S4096x256 w shapeCasts_S1x4096x256_S4096x256 (ix2 k j) = w (ix3 (0 : Fin 1) k j) := fun k =>
    shapeCast_1ab_ab_apply (a := 4096) (b := 256) w shapeCasts_S1x4096x256_S4096x256 k j
  have h := Ideal.matmul_plain_apply (M := 512) (K := 4096) (N := 256) (φ₁ := .bf16) (φ₂ := .bf16) none x
    (shapeCast S4096x256 w shapeCasts_S1x4096x256_S4096x256) (constant S512x256 .f32 0x00000000#32) r j
  rw [show (constant (F := Ideal) S512x256 .f32 0x00000000#32) (ix2 r j) = 0 from Ideal.ofBits_zero_f32, zero_add] at h
  simp only [hw] at h
  rw [← h]
  generalize hy : FloatOps.matmul (F := Ideal) _ _ _ _ _ (ix2 r j) = y
  have hk : k0_pay2 (F := Ideal) w x (ix2 r j)
      = Ideal.ofBits .f32 0x3F000000#32 * y
        * (Ideal.ofBits .f32 0x3F800000#32
          + Ideal.tanh (Ideal.ofBits .f32 0x3F4C422A#32 * (y + Ideal.ofBits .f32 0x3D372713#32 * y * y * y))) := by
    subst hy
    rfl
  rw [hk]
  unfold gelu
  rw [mul_assoc (Ideal.ofBits .f32 0x3D372713#32) y y, mul_assoc (Ideal.ofBits .f32 0x3D372713#32) (y * y) y]

/-- Where the columns of a tile of the weights start. -/
theorem cols_off (c : Dev nD) (t : Fin 8) (s : Fin 4) :
    k0_off1 c (BitVec.ofNat 32 t.val) (BitVec.ofNat 32 (256 * s.val)) 0 = 0
      ∧ k0_off1 c (BitVec.ofNat 32 t.val) (BitVec.ofNat 32 (256 * s.val)) 1 = 1024 * (pls c t).val + 256 * s.val := by
  revert c t s
  decide +kernel

section Values
variable (m : (ℓ : Loc nD τ sig) → Buf (Elt Ideal) ℓ) (X : SX.Idx → EReal) (W : S4096x8192.Idx → EReal)

theorem row_lt (c : Dev nD) (r : Fin 512) : 512 * c.val + r.val < 4096 := by
  have : c.val < 8 := c.isLt
  omega
theorem col_lt (d : Dev nD) (s : Fin 4) (j : Fin 256) : 1024 * d.val + 256 * s.val + j.val < 8192 := by
  have : d.val < 8 := d.isLt
  omega

/-- A tile of the weights, by entry. -/
theorem wVec_apply (c : Dev nD) (hw : m ((c : Thread nD τ).loc main_arg1) = W) (t : Fin 8) (s : Fin 4) (k : Fin 4096) (j : Fin 256) :
    wVec m c t s (ix3 (0 : Fin 1) k j) = W (ix2 k (⟨1024 * (pls c t).val + 256 * s.val + j.val, col_lt _ _ _⟩ : Fin 8192)) := by
  subst hw
  unfold wVec
  refine (shapeCast_ab_1ab_apply (a := 4096) (b := 256) (wTile m c t s) _ 0 k j).trans ?_
  show m ((c : Thread nD τ).loc main_arg1) ((Rect.unit (s := S4096x8192) (k0_off1 c (BitVec.ofNat 32 t.val) (BitVec.ofNat 32 (256 * s.val))) S4096x256.size (k0_off1_inb c t s)).emb (ix2 k j)) = _
  refine congrArg _ (funext fun a => Fin.ext ?_)
  match a with
  | ⟨0, _⟩ =>
    show k0_off1 c (BitVec.ofNat 32 t.val) (BitVec.ofNat 32 (256 * s.val)) 0 + 1 * k.val = k.val
    rw [(cols_off c t s).1]
    omega
  | ⟨1, _⟩ =>
    show k0_off1 c (BitVec.ofNat 32 t.val) (BitVec.ofNat 32 (256 * s.val)) 1 + 1 * j.val = 1024 * (pls c t).val + 256 * s.val + j.val
    rw [(cols_off c t s).2]
    omega

/-- The rows of a device, by entry. -/
theorem xb_apply (c : Dev nD) (hx : xIn m c = Layout.block ⟨2, ![512, 4096]⟩ ⟨2, ![4096, 4096]⟩ 0 8 c X) (r : Fin 512) (k : Fin 4096) :
    xb m c (ix2 r k) = X (ix2 (⟨512 * c.val + r.val, row_lt c r⟩ : Fin 4096) k) := by
  have h : xb m c = xIn m c := by
    unfold xb k0_pay1
    funext i
    show shapeCast S512x4096 (shapeCast S512x4096 (xIn m c) _) _ i = _
    rw [shapeCast_self, shapeCast_self]
  rw [h, hx, Layout.block_apply]
  refine congrArg X (funext fun a => Fin.ext ?_)
  match a with
  | ⟨0, _⟩ =>
    show c.val * 512 + r.val = 512 * c.val + r.val
    omega
  | ⟨1, _⟩ => rfl

/-- A tile is an entry of the reference's result: its rows are the computing device's, its columns belong to the device
    `t` places on. -/
theorem tile_value (c : Dev nD) (hx : xIn m c = Layout.block ⟨2, ![512, 4096]⟩ ⟨2, ![4096, 4096]⟩ 0 8 c X)
    (hw : m ((c : Thread nD τ).loc main_arg1) = W) (t : Fin 8) (s : Fin 4) (r : Fin 512) (j : Fin 256) :
    k0_pay2 (wVec m c t s) (xb m c) (ix2 r j)
      = geluProduct X W (ix2 (⟨512 * c.val + r.val, row_lt c r⟩ : Fin 4096) (⟨1024 * (pls c t).val + 256 * s.val + j.val, col_lt _ _ _⟩ : Fin 8192)) := by
  rw [tile_apply]
  refine congrArg gelu (Finset.sum_congr rfl fun k _ => ?_)
  rw [xb_apply m X c hx, wVec_apply m W c hw]

/-- An arrived block, by entry. -/
theorem arrived_value (c p : Dev nD) (hx : xIn m p = Layout.block ⟨2, ![512, 4096]⟩ ⟨2, ![4096, 4096]⟩ 0 8 p X)
    (hw : m ((p : Thread nD τ).loc main_arg1) = W) (r : Fin 512) (l : Fin 1024) (hl : 1024 * c.val + l.val < 8192) :
    k0_pay66 (blockFrom m c p) (ix2 r l)
      = geluProduct X W (ix2 (⟨512 * p.val + r.val, row_lt p r⟩ : Fin 4096) (⟨1024 * c.val + l.val, hl⟩ : Fin 8192)) := by
  have h1 : k0_pay66 (blockFrom m c p) (ix2 r l) = blockFrom m c p (ix3 (0 : Fin 1) r l) :=
    shapeCast_1ab_ab_apply (a := 512) (b := 1024) (blockFrom m c p) shapeCasts_S1x512x1024_S512x1024 r l
  have h2 : blockFrom m c p (ix3 (0 : Fin 1) r l)
      = k0_pay2 (wVec m p (mns c p) ⟨l.val / 256, Nat.div_lt_of_lt_mul l.isLt⟩) (xb m p)
        (ix2 r (⟨l.val % 256, Nat.mod_lt _ (by decide)⟩ : Fin 256)) :=
    shapeCast_ab_1ab_apply (a := 512) (b := 256)
      (k0_pay2 (wVec m p (mns c p) ⟨l.val / 256, Nat.div_lt_of_lt_mul l.isLt⟩) (xb m p)) shapeCasts_S512x256_S1x512x256 0 r _
  rw [h1, h2, tile_value m X W p hx hw]
  refine congrArg _ (congrArg _ (Fin.ext ?_))
  show 1024 * (pls p (mns c p)).val + 256 * (l.val / 256) + l.val % 256 = 1024 * c.val + l.val
  rw [pls_mns]
  omega

/-- A device's part of the result is its columns of the reference's result. -/
theorem outAt_eq (hx : ∀ c : Dev nD, xIn m c = Layout.block ⟨2, ![512, 4096]⟩ ⟨2, ![4096, 4096]⟩ 0 8 c X)
    (hw : ∀ c : Dev nD, m ((c : Thread nD τ).loc main_arg1) = W) (c : Dev nD) :
    outAt m c = Layout.block ⟨2, ![4096, 1024]⟩ ⟨2, ![4096, 8192]⟩ 1 8 c (geluProduct X W) := by
  funext i
  rw [Layout.block_apply]
  have h0 : (i 0).val < 4096 := (i 0).isLt
  have h1 : (i 1).val < 1024 := (i 1).isLt
  have hc : c.val < 8 := c.isLt
  unfold outAt
  split
  · rename_i h
    rw [tile_value m X W c (hx c) (hw c)]
    refine congrArg _ (funext fun a => Fin.ext ?_)
    match a with
    | ⟨0, _⟩ =>
      show 512 * c.val + (i 0).val % 512 = (i 0).val
      omega
    | ⟨1, _⟩ =>
      show 1024 * (pls c 0).val + 256 * ((i 1).val / 256) + (i 1).val % 256 = c.val * 1024 + (i 1).val
      rw [(pls_eq_self_iff c 0).mpr rfl]
      omega
  · refine (arrived_value m X W c _ (hx _) (hw _) _ (i 1) (by omega)).trans ?_
    refine congrArg _ (funext fun a => Fin.ext ?_)
    match a with
    | ⟨0, _⟩ =>
      show 512 * ((i 0).val / 512) + (i 0).val % 512 = (i 0).val
      omega
    | ⟨1, _⟩ =>
      show 1024 * c.val + (i 1).val = c.val * 1024 + (i 1).val
      omega

end Values

end Cert.KernelIdeal.Proof

end
-- ==== Proof.lean ====
/-
The proof of `Cert.Claim`, claim by claim.
-/
module

public import proofs.«01_k».proof.Defs
public import proofs.«01_k».proof.Proof.Kernel.Launch
public import proofs.«01_k».proof.Proof.KernelIdeal.Launch
public import proofs.«01_k».proof.Proof.KernelIdeal.Values
public import proofs.«01_k».proof.Proof.Gen.ReferenceIdeal
public import proofs.«01_k».proof.Proof.Gen.ReferenceIdeal.Run

@[expose] public section

noncomputable section

namespace Cert.Proof

open Idealize.ShloMosaic Idealize.SL.Sem Cert.Kernel

/-- The reference has no semaphore, so every counter is zero. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

theorem kernel_frame : Cert.quiescent_Kernel := fun m g _ =>
  (θ_run Cert.Kernel.defs _ _).mono (fun _ h => ⟨fun c => (h.1 c).2, h.2⟩) (Cert.Kernel.Proof.run_main m g)

theorem kernelIdeal_frame : Cert.quiescent_KernelIdeal := fun m g _ =>
  (θ_run Cert.KernelIdeal.defs _ _).mono (fun _ h => ⟨fun c => (h.1 c).2, h.2⟩) (Cert.KernelIdeal.Proof.run_main m g)

/-- Each device ends with its columns of the reference's result. -/
theorem kernel_is_reference : Cert.algebraic_KernelIdeal_ReferenceIdeal := fun m g m' g' _ hm =>
  ⟨_, (θ_run Cert.KernelIdeal.defs _ _).mono
      (fun _ h c => ⟨(h.1 c).1.trans (Cert.KernelIdeal.Proof.outAt_eq m _ _
        (fun d => (Cert.KernelIdeal.Proof.xIn_eq m d).trans (hm d).1) (fun d => (hm d).2) c), (h.1 c).2⟩)
      (Cert.KernelIdeal.Proof.run_main m g),
    (θ_run Cert.ReferenceIdeal.defs _ _).mono
      (fun _ h => ⟨(h 0).1.trans (Cert.KernelIdeal.Proof.ref_value _ _ _
        (fun i => Cert.KernelIdeal.Proof.ref_dot _ _ i) _), (h 0).2⟩)
      (Cert.ReferenceIdeal.Value.run m' g')⟩

theorem claim : Cert.Claim :=
  ⟨Cert.Kernel.Gen.facts, Cert.KernelIdeal.Gen.facts, Cert.ReferenceIdeal.Gen.facts,
    kernel_frame, kernelIdeal_frame, reference_frame, trivial, kernel_is_reference⟩

end Cert.Proof

end
